-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_below_3_14 [hPre_finite_below_3_14 : Cert.Pre_finite_below_3_14.Facts] (m : (ℓ : Loc Cert.KernelIdeal.nD Cert.KernelIdeal.τ Cert.KernelIdeal.sig) → Buf (Elt Ideal) ℓ) : Prop :=
  ∀ c : Dev Cert.KernelIdeal.nD,
    (Cert.Pre_finite_below_3_14.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_below_3_14 [hPre_finite_below_3_14 : Cert.Pre_finite_below_3_14.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_below_3_14.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_below_3_14 [hKernelIdeal : Cert.KernelIdeal.Facts] [hPre_finite_below_3_14 : Cert.Pre_finite_below_3_14.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_below_3_14 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_below_3_14 [hReferenceIdeal : Cert.ReferenceIdeal.Facts] [hPre_finite_below_3_14 : Cert.Pre_finite_below_3_14.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_below_3_14 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_below_3_14 [hKernelIdeal : Cert.KernelIdeal.Facts] [hReferenceIdeal : Cert.ReferenceIdeal.Facts] [hPre_finite_below_3_14 : Cert.Pre_finite_below_3_14.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_below_3_14 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_below_3_14 : Cert.Pre_finite_below_3_14.Facts),
    quiescent_Kernel (hKernel := hKernel)
    ∧ quiescent_KernelIdeal (hKernelIdeal := hKernelIdeal)
    ∧ quiescent_KernelIdeal_pre_finite_below_3_14 (hKernelIdeal := hKernelIdeal) (hPre_finite_below_3_14 := hPre_finite_below_3_14)
    ∧ quiescent_ReferenceIdeal (hReferenceIdeal := hReferenceIdeal)
    ∧ quiescent_ReferenceIdeal_pre_finite_below_3_14 (hReferenceIdeal := hReferenceIdeal) (hPre_finite_below_3_14 := hPre_finite_below_3_14)
    ∧ preserves_Kernel_KernelIdeal
    ∧ algebraic_KernelIdeal_ReferenceIdeal_pre_finite_below_3_14 (hKernelIdeal := hKernelIdeal) (hReferenceIdeal := hReferenceIdeal) (hPre_finite_below_3_14 := hPre_finite_below_3_14)
-- ==== Pre_finite_below_3_14.lean ====
abbrev S2048x128 : Shape := ⟨2, ![2048, 128]⟩
abbrev S2048 : Shape := ⟨1, ![2048]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x128 .f32) (main_arg1 : IVec S2048 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_c_0 : IVec S_ 32 := constantI S_ 32 4782969#32
  let main_v4 : IVec S2048 32 := broadcastInDim S2048 ![] bcast_S_S2048 main_c_0
  let main_v5 : IVec S2048 1 := cmpi .slt main_arg1 main_v4
  let main_c_1 : IVec S_ 1 := constantI S_ 1 1#1
  let main_v6 : IVec S_ 1 := (fun x v => Host.reduce IntOp.andi x v reducesTo_S2048_S_d0 h_S_) main_v5 main_c_1
  let main_v7 : IVec S_ 1 := andi main_v3 main_v6
  main_v7
-- ==== Kernel.lean ====
abbrev S2048x128 : Shape := ⟨2, ![2048, 128]⟩
abbrev S2048 : Shape := ⟨1, ![2048]⟩
abbrev S1x1 : Shape := ⟨2, ![1, 1]⟩
abbrev S4 : Shape := ⟨1, ![4]⟩
abbrev S1 : Shape := ⟨1, ![1]⟩
abbrev S_ : Shape := ⟨0, ![]⟩
abbrev S512x128 : Shape := ⟨2, ![512, 128]⟩
abbrev S1x2048 : Shape := ⟨2, ![1, 2048]⟩
abbrev S16x1 : Shape := ⟨2, ![16, 1]⟩
abbrev S16x2048 : Shape := ⟨2, ![16, 2048]⟩
abbrev S16 : Shape := ⟨1, ![16]⟩
abbrev S1x16x1 : Shape := ⟨3, ![1, 16, 1]⟩
abbrev S1x1x1 : Shape := ⟨3, ![1, 1, 1]⟩
abbrev S1x512 : Shape := ⟨2, ![1, 512]⟩
abbrev S512x1 : Shape := ⟨2, ![512, 1]⟩
abbrev S512 : Shape := ⟨1, ![512]⟩
abbrev S512x512 : Shape := ⟨2, ![512, 512]⟩
abbrev S1x1x512 : Shape := ⟨3, ![1, 1, 512]⟩

abbrev nBuf : Space → Nat
  | .hbm => 4
  | .vmem => 2
  | .smem => 1
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S1x1, .f32⟩
  | .hbm, ⟨3, _⟩ => ⟨S_, .f32⟩
  | .local _ .vmem, ⟨0, _⟩ => ⟨S2048, .i32⟩
  | .local _ .vmem, ⟨1, _⟩ => ⟨S2048x128, .f32⟩
  | .local _ .smem, ⟨0, _⟩ => ⟨S1x1, .f32⟩
  | _, _ => ⟨S2048x128, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x128 : Shape := ⟨2, ![2048, 128]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 110
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S_, .i1⟩
  | .hbm, ⟨36, _⟩ => ⟨S2048, .i1⟩
  | .hbm, ⟨37, _⟩ => ⟨S2048, .i1⟩
  | .hbm, ⟨38, _⟩ => ⟨S2048, .i1⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S2048, .i1⟩
  | .hbm, ⟨46, _⟩ => ⟨S2048, .f32⟩
  | .hbm, ⟨47, _⟩ => ⟨S2048, .f32⟩
  | .hbm, ⟨48, _⟩ => ⟨S_, .i32⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S2048, .i32⟩
  | .hbm, ⟨57, _⟩ => ⟨S2048, .i32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S2048, .i1⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .i32⟩
  | .hbm, ⟨66, _⟩ => ⟨S2048, .i32⟩
  | .hbm, ⟨67, _⟩ => ⟨S_, .i32⟩
  | .hbm, ⟨68, _⟩ => ⟨S_, .i32⟩
  | .hbm, ⟨69, _⟩ => ⟨S2048x128, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048x1, .f32⟩
  | .hbm, ⟨74, _⟩ => ⟨S1x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S1x2048, .f32⟩
  | .hbm, ⟨79, _⟩ => ⟨S2048x1, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S_, .f32⟩
  | .hbm, ⟨84, _⟩ => ⟨S2048x2048, .f32⟩
  | .hbm, ⟨85, _⟩ => ⟨S2048x2048, .i1⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S_, .f32⟩
  | .hbm, ⟨95, _⟩ => ⟨S2048x2048, .f32⟩
  | .hbm, ⟨96, _⟩ => ⟨S2048x2048, .f32⟩
  | .hbm, ⟨97, _⟩ => ⟨S_, .f32⟩
  | .hbm, ⟨98, _⟩ => ⟨S2048x2048, .f32⟩
  | .hbm, ⟨99, _⟩ => ⟨S2048x2048, .f32⟩
  | .hbm, ⟨100, _⟩ => ⟨S2048x2048, .f32⟩
  | .hbm, ⟨101, _⟩ => ⟨S2048x2048, .f32⟩
  | .hbm, ⟨102, _⟩ => ⟨S2048x2048, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_c : Ref sig .tc := ⟨.hbm, 7, rfl⟩
abbrev main_c_2 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_while0c_c_12 : Ref sig .tc := ⟨.hbm, 13, rfl⟩
abbrev main_while0c_v35 : Ref sig .tc := ⟨.hbm, 14, rfl⟩
abbrev main_while0b_c_12 : Ref sig .tc := ⟨.hbm, 15, rfl⟩
abbrev main_while0b_v35 : Ref sig .tc := ⟨.hbm, 16, rfl⟩
abbrev main_while0b_c_13 : Ref sig .tc := ⟨.hbm, 17, rfl⟩
abbrev main_while0b_v36 : Ref sig .tc := ⟨.hbm, 18, rfl⟩
abbrev main_while0b_v37 : Ref sig .tc := ⟨.hbm, 19, rfl⟩
abbrev main_while0b_c_14 : Ref sig .tc := ⟨.hbm, 20, rfl⟩
abbrev main_while0b_call0_v0 : Ref sig .tc := ⟨.hbm, 21, rfl⟩
abbrev main_while0b_call0_c : Ref sig .tc := ⟨.hbm, 22, rfl⟩
abbrev main_while0b_call0_v1 : Ref sig .tc := ⟨.hbm, 23, rfl⟩
abbrev main_while0b_call0_c_0 : Ref sig .tc := ⟨.hbm, 24, rfl⟩
abbrev main_while0b_call0_v2 : Ref sig .tc := ⟨.hbm, 25, rfl⟩
abbrev main_while0b_call0_v3 : Ref sig .tc := ⟨.hbm, 26, rfl⟩
abbrev main_while0b_call0_v4 : Ref sig .tc := ⟨.hbm, 27, rfl⟩
abbrev main_while0b_call0_c_1 : Ref sig .tc := ⟨.hbm, 28, rfl⟩
abbrev main_while0b_call0_v5 : Ref sig .tc := ⟨.hbm, 29, rfl⟩
abbrev main_while0b_call0_v6 : Ref sig .tc := ⟨.hbm, 30, rfl⟩
abbrev main_while0b_call0_c_2 : Ref sig .tc := ⟨.hbm, 31, rfl⟩
abbrev main_while0b_call0_v7 : Ref sig .tc := ⟨.hbm, 32, rfl⟩
abbrev main_while0b_call0_v8 : Ref sig .tc := ⟨.hbm, 33, rfl⟩
abbrev main_while0b_call0_c_3 : Ref sig .tc := ⟨.hbm, 34, rfl⟩
abbrev main_while0b_call0_v9 : Ref sig .tc := ⟨.hbm, 35, rfl⟩
abbrev main_while0b_call0_v10 : Ref sig .tc := ⟨.hbm, 36, rfl⟩
abbrev main_while0b_call0_v11 : Ref sig .tc := ⟨.hbm, 37, rfl⟩
abbrev main_while0b_call0_v12 : Ref sig .tc := ⟨.hbm, 38, rfl⟩
abbrev main_while0b_call0_v13 : Ref sig .tc := ⟨.hbm, 39, rfl⟩
abbrev main_while0b_call0_v14 : Ref sig .tc := ⟨.hbm, 40, rfl⟩
abbrev main_while0b_v38 : Ref sig .tc := ⟨.hbm, 41, rfl⟩
abbrev main_while0b_c_15 : Ref sig .tc := ⟨.hbm, 42, rfl⟩
abbrev main_while0b_v39 : Ref sig .tc := ⟨.hbm, 43, rfl⟩
abbrev main_while0b_v40 : Ref sig .tc := ⟨.hbm, 44, rfl⟩
abbrev main_while0b_v41 : Ref sig .tc := ⟨.hbm, 45, rfl⟩
abbrev main_while0b_v42 : Ref sig .tc := ⟨.hbm, 46, rfl⟩
abbrev main_while0b_v43 : Ref sig .tc := ⟨.hbm, 47, rfl⟩
abbrev main_while0b_c_16 : Ref sig .tc := ⟨.hbm, 48, rfl⟩
abbrev main_while0b_call1_v0 : Ref sig .tc := ⟨.hbm, 49, rfl⟩
abbrev main_while0b_call1_v1 : Ref sig .tc := ⟨.hbm, 50, rfl⟩
abbrev main_while0b_call1_v2 : Ref sig .tc := ⟨.hbm, 51, rfl⟩
abbrev main_while0b_call1_v3 : Ref sig .tc := ⟨.hbm, 52, rfl⟩
abbrev main_while0b_call1_v4 : Ref sig .tc := ⟨.hbm, 53, rfl⟩
abbrev main_while0b_call1_v5 : Ref sig .tc := ⟨.hbm, 54, rfl⟩
abbrev main_while0b_call1_v6 : Ref sig .tc := ⟨.hbm, 55, rfl⟩
abbrev main_while0b_call1_v7 : Ref sig .tc := ⟨.hbm, 56, rfl⟩
abbrev main_while0b_call1_v8 : Ref sig .tc := ⟨.hbm, 57, rfl⟩
abbrev main_while0b_call1_c : Ref sig .tc := ⟨.hbm, 58, rfl⟩
abbrev main_while0b_call1_v9 : Ref sig .tc := ⟨.hbm, 59, rfl⟩
abbrev main_while0b_call1_v10 : Ref sig .tc := ⟨.hbm, 60, rfl⟩
abbrev main_while0b_call1_v11 : Ref sig .tc := ⟨.hbm, 61, rfl⟩
abbrev main_while0b_call1_c_0 : Ref sig .tc := ⟨.hbm, 62, rfl⟩
abbrev main_while0b_call1_v12 : Ref sig .tc := ⟨.hbm, 63, rfl⟩
abbrev main_while0b_call1_v13 : Ref sig .tc := ⟨.hbm, 64, rfl⟩
abbrev main_while0b_v44 : Ref sig .tc := ⟨.hbm, 65, rfl⟩
abbrev main_while0b_v45 : Ref sig .tc := ⟨.hbm, 66, rfl⟩
abbrev main_while0b_c_17 : Ref sig .tc := ⟨.hbm, 67, rfl⟩
abbrev main_while0b_v46 : Ref sig .tc := ⟨.hbm, 68, rfl⟩
abbrev main_call3_v0 : Ref sig .tc := ⟨.hbm, 69, rfl⟩
abbrev main_call3_cst : Ref sig .tc := ⟨.hbm, 70, rfl⟩
abbrev main_call3_v1 : Ref sig .tc := ⟨.hbm, 71, rfl⟩
abbrev main_v3 : Ref sig .tc := ⟨.hbm, 72, rfl⟩
abbrev main_v4 : Ref sig .tc := ⟨.hbm, 73, rfl⟩
abbrev main_v5 : Ref sig .tc := ⟨.hbm, 74, rfl⟩
abbrev main_v6 : Ref sig .tc := ⟨.hbm, 75, rfl⟩
abbrev main_v7 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_cst_3 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_cst_4 : Ref sig .tc := ⟨.hbm, 94, rfl⟩
abbrev main_v24 : Ref sig .tc := ⟨.hbm, 95, rfl⟩
abbrev main_v25 : Ref sig .tc := ⟨.hbm, 96, rfl⟩
abbrev main_cst_5 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_cst_6 : Ref sig .tc := ⟨.hbm, 103, rfl⟩
abbrev main_v31 : Ref sig .tc := ⟨.hbm, 104, rfl⟩
abbrev main_cst_7 : Ref sig .tc := ⟨.hbm, 105, rfl⟩
abbrev main_v32 : Ref sig .tc := ⟨.hbm, 106, rfl⟩
abbrev main_cst_8 : Ref sig .tc := ⟨.hbm, 107, rfl⟩
abbrev main_v33 : Ref sig .tc := ⟨.hbm, 108, rfl⟩
abbrev main_v34 : Ref sig .tc := ⟨.hbm, 109, rfl⟩

abbrev nD : Nat := 1
abbrev τ : Topo := Topo.v7x

variable {F : FTy → Type} [FloatOps F]

abbrev main_while0_count : Scf.Loop 32 := ⟨0#32, 16#32, 1#32⟩
-- ==== Proof.Ref.Steps.lean ====
/- What each stretch of the reference's host operations leaves in the buffers that later stretches read. -/
module

public import proofs.«01_k».proof.Proof.Gen.ReferenceIdeal.Run
public import Idealize.ShloMosaic.Lib.Quiescent

@[expose] public section

set_option maxRecDepth 16384

noncomputable section

namespace Cert.RefSteps

open Cert.ReferenceIdeal Cert.ReferenceIdeal.Gen Cert.ReferenceIdeal.Value
open Idealize.ShloMosaic Idealize.ShloMosaic.TcCoe
open Idealize.ShloMosaic.StableHlo

variable {F : FTy → Type} [FloatOps F]

/-- The remainder of a word by three with the sign of the divisor, spelled as the host program does. -/
def modThree (x : BitVec 32) : BitVec 32 :=
  Scalar.select (IntOp.andi (IntOp.cmpi .ne (IntOp.cmpi .slt (IntOp.remsi .host x 3#32) 0#32) (IntOp.cmpi .slt 3#32 0#32))
      (IntOp.cmpi .ne (IntOp.remsi .host x 3#32) 0#32))
    (IntOp.addi (IntOp.remsi .host x 3#32) 3#32) (IntOp.remsi .host x 3#32)

/-- The sign of a word: -1, 0 or 1. -/
def signWord (x : BitVec 32) : BitVec 32 := if x = 0 then 0 else if x.msb then -1 else 1

/-- The quotient of a word by three rounded downwards, spelled as the host program does. -/
def floorThree (x : BitVec 32) : BitVec 32 :=
  Scalar.select (IntOp.andi (IntOp.cmpi .ne (signWord x) (signWord 3#32)) (IntOp.cmpi .ne (IntOp.remsi .host x 3#32) 0#32))
    (IntOp.subi (IntOp.divsi .host x 3#32) 1#32) (IntOp.divsi .host x 3#32)

/-- Whether a trip of the loop divides its word: positive and a multiple of three. -/
def divides (x : BitVec 32) : BitVec 1 :=
  IntOp.andi (IntOp.cmpi .sgt x 0#32) (IntOp.cmpi .eq (modThree x) 0#32)

/-- One trip on the word. -/
def stepWord (x : BitVec 32) : BitVec 32 := Scalar.select (divides x) (floorThree x) x

section stretches
variable (X : Valuation τ sig (Elt F))

/-- The first part of a trip sets the flag: the word is positive. -/
theorem s0_v37 : after while0Ops0 X (Proc.devRef .tc main_while0b_v37)
    = fun i => IntOp.cmpi .sgt ((X (Proc.devRef .tc main_v2_2) : IVec S2048 32) i) 0#32 := by
  after_results
  rfl

/-- The divisor of the remainder is three. -/
theorem s0_c14 : after while0Ops0 X (Proc.devRef .tc main_while0b_c_14) = fun _ => 3#32 := by
  after_results
  rfl

/-- The remainder of the word by three. -/
theorem s1_v38 (h : X (Proc.devRef .tc main_while0b_c_14) = fun _ => 3#32) :
    after while0Ops0_1 X (Proc.devRef .tc main_while0b_v38)
      = fun i => modThree ((X (Proc.devRef .tc main_v2_2) : IVec S2048 32) i) := by
  after_results_simp
  simp only [TRef.ofBuf_toBuf]
  rw [h]
  funext i
  rfl

/-- The flag of a division: positive and of remainder zero. -/
theorem s2_v41 : after while0Ops0_2 X (Proc.devRef .tc main_while0b_v41)
    = fun i => IntOp.andi ((X (Proc.devRef .tc main_while0b_v37) : IVec S2048 1) i)
        (IntOp.cmpi .eq ((X (Proc.devRef .tc main_while0b_v38) : IVec S2048 32) i) 0#32) := by
  after_results
  rfl

/-- The count grows by the flag. -/
theorem s2_v43 : after while0Ops0_2 X (Proc.devRef .tc main_while0b_v43)
    = fun i => FloatOps.addf ((X (Proc.devRef .tc main_v2_3) : FVec F S2048 .f32) i) (FloatOps.uitofp .f32
        (IntOp.andi ((X (Proc.devRef .tc main_while0b_v37) : IVec S2048 1) i)
          (IntOp.cmpi .eq ((X (Proc.devRef .tc main_while0b_v38) : IVec S2048 32) i) 0#32))) := by
  after_results
  rfl

/-- The divisor of the quotient is three. -/
theorem s2_c16 : after while0Ops0_2 X (Proc.devRef .tc main_while0b_c_16) = fun _ => 3#32 := by
  after_results
  rfl

/-- The floor of the word over three. -/
theorem s3_v44 (h : X (Proc.devRef .tc main_while0b_c_16) = fun _ => 3#32) :
    after while0Ops0_3 X (Proc.devRef .tc main_while0b_v44)
      = fun i => floorThree ((X (Proc.devRef .tc main_v2_2) : IVec S2048 32) i) := by
  after_results_simp
  simp only [TRef.ofBuf_toBuf]
  rw [h]
  funext i
  rfl

/-- The word of the next trip: the quotient where the flag is set, else the word itself. -/
theorem s4_v45 : after while0Ops0_4 X (Proc.devRef .tc main_while0b_v45)
    = fun i => Scalar.select ((X (Proc.devRef .tc main_while0b_v41) : IVec S2048 1) i)
        ((X (Proc.devRef .tc main_while0b_v44) : IVec S2048 32) i) ((X (Proc.devRef .tc main_v2_2) : IVec S2048 32) i) := by
  after_results
  rfl

/-- The trip ends with the new word carried over. -/
theorem s5_v2_2 : after while0Ops0_5 X (Proc.devRef .tc main_v2_2) = X (Proc.devRef .tc main_while0b_v45) := by
  after_results
  rfl

/-- The trip ends with the new count carried over. -/
theorem s5_v2_3 : after while0Ops0_5 X (Proc.devRef .tc main_v2_3) = X (Proc.devRef .tc main_while0b_v43) := by
  after_results
  rfl

/-- A buffer that no stretch of the body writes keeps its contents over the condition and the body. -/
theorem keep_body (b : Ref sig .tc)
    (h : b ∉ (condOps_W ++ while0Ops0_W ++ while0Ops0_1_W ++ while0Ops0_2_W ++ while0Ops0_3_W
      ++ while0Ops0_4_W ++ while0Ops0_5_W)) :
    afterL bodyI (after condOps X) (Proc.devRef .tc b) = X (Proc.devRef .tc b) := by
  simp only [List.mem_append, not_or] at h
  obtain ⟨⟨⟨⟨⟨⟨hc, h0⟩, h1⟩, h2⟩, h3⟩, h4⟩, h5⟩ := h
  simp only [afterL_cons, afterL_nil]
  rw [after_of_writes_sub _ _ while0Ops0_5_writes h5, after_of_writes_sub _ _ while0Ops0_4_writes h4,
    after_of_writes_sub _ _ while0Ops0_3_writes h3, after_of_writes_sub _ _ while0Ops0_2_writes h2,
    after_of_writes_sub _ _ while0Ops0_1_writes h1, after_of_writes_sub _ _ while0Ops0_writes h0,
    after_of_writes_sub _ _ condOps_writes hc]

end stretches

end Cert.RefSteps

end
-- ==== Proof.Ref.Trips.lean ====
/- The reference's loop trip by trip, its arguments unchanged, and its counters. -/
module

public import proofs.«01_k».proof.Proof.Ref.Steps

@[expose] public section

set_option maxRecDepth 16384

noncomputable section

namespace Cert.RefSteps

open Cert.ReferenceIdeal Cert.ReferenceIdeal.Gen Cert.ReferenceIdeal.Value
open Idealize.ShloMosaic Idealize.ShloMosaic.TcCoe
open Idealize.SL.Sem
open Idealize.ShloMosaic.StableHlo

variable {F : FTy → Type} [FloatOps F]

/-- The word after `k` trips. -/
def wordAt (x : BitVec 32) : ℕ → BitVec 32
  | 0 => x
  | k + 1 => stepWord (wordAt x k)

/-- The count of divisions after `k` trips, as the float that the program carries. -/
def countAt (x : BitVec 32) : ℕ → F .f32
  | 0 => FloatOps.ofBits .f32 0#32
  | k + 1 => FloatOps.addf (countAt x k) (FloatOps.uitofp .f32 (divides (wordAt x k)))

section trip
variable (X : Valuation τ sig (Elt F))

/-- A trip takes every word one step. -/
theorem trip_word : afterL bodyI (after condOps X) (Proc.devRef .tc main_v2_2)
    = fun i => stepWord ((X (Proc.devRef .tc main_v2_2) : IVec S2048 32) i) := by
  have hm : ∀ (Y : Valuation τ sig (Elt F)), after while0Ops0 Y (Proc.devRef .tc main_v2_2) = Y (Proc.devRef .tc main_v2_2) :=
    fun Y => after_of_writes_sub _ _ while0Ops0_writes (by decide +kernel)
  have hm1 : ∀ (Y : Valuation τ sig (Elt F)), after while0Ops0_1 Y (Proc.devRef .tc main_v2_2) = Y (Proc.devRef .tc main_v2_2) :=
    fun Y => after_of_writes_sub _ _ while0Ops0_1_writes (by decide +kernel)
  have hm2 : ∀ (Y : Valuation τ sig (Elt F)), after while0Ops0_2 Y (Proc.devRef .tc main_v2_2) = Y (Proc.devRef .tc main_v2_2) :=
    fun Y => after_of_writes_sub _ _ while0Ops0_2_writes (by decide +kernel)
  have hm3 : ∀ (Y : Valuation τ sig (Elt F)), after while0Ops0_3 Y (Proc.devRef .tc main_v2_2) = Y (Proc.devRef .tc main_v2_2) :=
    fun Y => after_of_writes_sub _ _ while0Ops0_3_writes (by decide +kernel)
  have hmc : ∀ (Y : Valuation τ sig (Elt F)), after condOps Y (Proc.devRef .tc main_v2_2) = Y (Proc.devRef .tc main_v2_2) :=
    fun Y => after_of_writes_sub _ _ condOps_writes (by decide +kernel)
  have h37 : ∀ (Y : Valuation τ sig (Elt F)), after while0Ops0_1 Y (Proc.devRef .tc main_while0b_v37) = Y (Proc.devRef .tc main_while0b_v37) :=
    fun Y => after_of_writes_sub _ _ while0Ops0_1_writes (by decide +kernel)
  have h41 : ∀ (Y : Valuation τ sig (Elt F)), after while0Ops0_3 Y (Proc.devRef .tc main_while0b_v41) = Y (Proc.devRef .tc main_while0b_v41) :=
    fun Y => after_of_writes_sub _ _ while0Ops0_3_writes (by decide +kernel)
  simp only [afterL_cons, afterL_nil]
  rw [s5_v2_2, s4_v45, h41, s2_v41, h37, s0_v37, s3_v44 _ (s2_c16 _), hm3, hm2, hm1, hm, s1_v38 _ (s0_c14 _), hm, hmc]
  rfl

/-- A trip adds one to the count where it divides. -/
theorem trip_count : afterL bodyI (after condOps X) (Proc.devRef .tc main_v2_3)
    = fun i => FloatOps.addf ((X (Proc.devRef .tc main_v2_3) : FVec F S2048 .f32) i)
        (FloatOps.uitofp .f32 (divides ((X (Proc.devRef .tc main_v2_2) : IVec S2048 32) i))) := by
  have hm : ∀ (Y : Valuation τ sig (Elt F)), after while0Ops0 Y (Proc.devRef .tc main_v2_2) = Y (Proc.devRef .tc main_v2_2) :=
    fun Y => after_of_writes_sub _ _ while0Ops0_writes (by decide +kernel)
  have hmc : ∀ (Y : Valuation τ sig (Elt F)), after condOps Y (Proc.devRef .tc main_v2_2) = Y (Proc.devRef .tc main_v2_2) :=
    fun Y => after_of_writes_sub _ _ condOps_writes (by decide +kernel)
  have hv : ∀ (Y : Valuation τ sig (Elt F)), after while0Ops0 Y (Proc.devRef .tc main_v2_3) = Y (Proc.devRef .tc main_v2_3) :=
    fun Y => after_of_writes_sub _ _ while0Ops0_writes (by decide +kernel)
  have hv1 : ∀ (Y : Valuation τ sig (Elt F)), after while0Ops0_1 Y (Proc.devRef .tc main_v2_3) = Y (Proc.devRef .tc main_v2_3) :=
    fun Y => after_of_writes_sub _ _ while0Ops0_1_writes (by decide +kernel)
  have hvc : ∀ (Y : Valuation τ sig (Elt F)), after condOps Y (Proc.devRef .tc main_v2_3) = Y (Proc.devRef .tc main_v2_3) :=
    fun Y => after_of_writes_sub _ _ condOps_writes (by decide +kernel)
  have h37 : ∀ (Y : Valuation τ sig (Elt F)), after while0Ops0_1 Y (Proc.devRef .tc main_while0b_v37) = Y (Proc.devRef .tc main_while0b_v37) :=
    fun Y => after_of_writes_sub _ _ while0Ops0_1_writes (by decide +kernel)
  have h43 : ∀ (Y : Valuation τ sig (Elt F)), after while0Ops0_3 Y (Proc.devRef .tc main_while0b_v43) = Y (Proc.devRef .tc main_while0b_v43) :=
    fun Y => after_of_writes_sub _ _ while0Ops0_3_writes (by decide +kernel)
  have h43' : ∀ (Y : Valuation τ sig (Elt F)), after while0Ops0_4 Y (Proc.devRef .tc main_while0b_v43) = Y (Proc.devRef .tc main_while0b_v43) :=
    fun Y => after_of_writes_sub _ _ while0Ops0_4_writes (by decide +kernel)
  simp only [afterL_cons, afterL_nil]
  rw [s5_v2_3, h43', h43, s2_v43, h37, s0_v37, hv1, hv, hvc, s1_v38 _ (s0_c14 _), hm, hmc]
  rfl

end trip

variable (m : (ℓ : Loc nD τ sig) → Buf (Elt F) ℓ) (ρ : Dev nD → PrngReg) (c : Dev nD)

/-- The index array of the launch. -/
abbrev idxArg : IVec S2048 32 := m ((c.tc : Thread nD τ).loc main_arg1)
/-- The embedding array of the launch. -/
abbrev embArg : FVec F S2048x128 .f32 := m ((c.tc : Thread nD τ).loc main_arg0)

/-- Before the loop every array that is not written keeps its contents. -/
theorem entry_keep (b : Ref sig .tc) (h : b ∉ hostOps0_W) :
    entryContents preI m c (Proc.devRef .tc b) = m ((c.tc : Thread nD τ).loc b) := by
  simp only [entryContents, afterL_cons, afterL_nil]
  exact after_of_writes_sub _ _ hostOps0_writes h

/-- The loop starts from the indices. -/
theorem entry_word : entryContents preI m c (Proc.devRef .tc main_v2_2) = (idxArg m c : IVec S2048 32) := by
  simp only [entryContents, afterL_cons, afterL_nil]
  after_reads_simp
  rfl

/-- The loop starts from the count zero. -/
theorem entry_count : entryContents preI m c (Proc.devRef .tc main_v2_3) = fun _ => FloatOps.ofBits .f32 0#32 := by
  simp only [entryContents, afterL_cons, afterL_nil]
  after_reads_simp
  rfl

/-- Before the loop the temperature is computed. -/
theorem entry_temp : entryContents preI m c (Proc.devRef .tc main_v0)
    = Host.divf (constant (F := F) S_ .f32 0x3F800000#32) (constant (F := F) S_ .f32 0x41200000#32) := by
  simp only [entryContents, afterL_cons, afterL_nil]
  after_reads_simp

/-- One trip more. -/
theorem atK_succ (k : ℕ) : atK m (k + 1) c = afterL bodyI (after condOps (atK m k c)) := rfl

/-- Before trip `k` every word has taken `k` steps. -/
theorem atK_word : ∀ k, atK m k c (Proc.devRef .tc main_v2_2) = fun i => wordAt (idxArg m c i) k
  | 0 => entry_word m c
  | k + 1 => by rw [atK_succ, trip_word, atK_word k]; rfl

/-- Before trip `k` every count is that of `k` trips. -/
theorem atK_count : ∀ k, atK m k c (Proc.devRef .tc main_v2_3) = fun i => countAt (F := F) (idxArg m c i) k
  | 0 => entry_count m c
  | k + 1 => by rw [atK_succ, trip_count, atK_count k, atK_word m c k]; rfl

/-- A buffer that the loop does not write is before every trip what it was at the loop's entry. -/
theorem atK_keep (b : Ref sig .tc)
    (h : b ∉ (condOps_W ++ while0Ops0_W ++ while0Ops0_1_W ++ while0Ops0_2_W ++ while0Ops0_3_W ++ while0Ops0_4_W ++ while0Ops0_5_W)) :
    ∀ k, atK m k c (Proc.devRef .tc b) = entryContents preI m c (Proc.devRef .tc b)
  | 0 => rfl
  | k + 1 => by rw [atK_succ, keep_body _ _ h, atK_keep b h k]

/-- What the lines after the loop start from. -/
def exitC : Valuation τ sig (Elt F) := after condOps (atK m 16 c)

/-- The loop leaves alone what no trip writes. -/
theorem exit_keep (b : Ref sig .tc)
    (h : b ∉ (condOps_W ++ while0Ops0_W ++ while0Ops0_1_W ++ while0Ops0_2_W ++ while0Ops0_3_W ++ while0Ops0_4_W ++ while0Ops0_5_W)) :
    exitC m c (Proc.devRef .tc b) = entryContents preI m c (Proc.devRef .tc b) := by
  unfold exitC
  exact (after_of_writes_sub _ _ condOps_writes (fun hb => h (by simp only [List.mem_append]; exact .inl (.inl (.inl (.inl (.inl (.inl hb)))))))).trans
    (atK_keep m c b h 16)

/-- After the loop every count is that of sixteen trips. -/
theorem exit_count : exitC m c (Proc.devRef .tc main_v2_3) = fun i => countAt (F := F) (idxArg m c i) 16 := by
  unfold exitC
  exact (after_of_writes_sub _ _ condOps_writes (by decide +kernel)).trans (atK_count m c 16)

/-- The embeddings end as they were. -/
theorem final_arg0 : finalContents condOps preI bodyI postI 16 m c (Proc.devRef .tc main_arg0) = m ((c.tc : Thread nD τ).loc main_arg0) := by
  show afterL postI (exitC m c) _ = _
  simp only [afterL_cons, afterL_nil]
  after_results
  rw [exit_keep m c main_arg0 (by decide +kernel), entry_keep m c main_arg0 (by decide +kernel)]

/-- The indices end as they were. -/
theorem final_arg1 : finalContents condOps preI bodyI postI 16 m c (Proc.devRef .tc main_arg1) = m ((c.tc : Thread nD τ).loc main_arg1) := by
  show afterL postI (exitC m c) _ = _
  simp only [afterL_cons, afterL_nil]
  after_results
  rw [exit_keep m c main_arg1 (by decide +kernel), entry_keep m c main_arg1 (by decide +kernel)]

/-- The reference's arguments end unchanged. -/
theorem unchanged : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 rfl).trans (final_arg0 m c), (h c main_arg1 rfl).trans (final_arg1 m c)⟩) (run_fold m ρ)

/-- The reference's frame: it ends, its arguments unchanged and every counter at zero (it has none). -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨h, sem_eq_zero_of_no_sems rfl r.2⟩) (unchanged m ρ)

end Cert.RefSteps

end
-- ==== Proof.Ref.Result.lean ====
/- The reference's result at the ideal instance, as a quotient of double sums. -/
module

public import proofs.«01_k».proof.Proof.Ref.Trips
public import Idealize.ShloMosaic.Lib.Pointwise
public import Idealize.ShloMosaic.Lib.IdealHost

@[expose] public section

set_option maxRecDepth 16384

noncomputable section

namespace Cert.RefSteps

open Cert.ReferenceIdeal Cert.ReferenceIdeal.Gen Cert.ReferenceIdeal.Value
open Idealize.ShloMosaic Idealize.ShloMosaic.TcCoe
open Idealize.SL.Sem
open Idealize.ShloMosaic.StableHlo

section generic
variable {F : FTy → Type} [FloatOps F] (X : Valuation τ sig (Elt F))

/-- The radii: each embedding's Euclidean norm. -/
def radiiOf (z : FVec F S2048x128 .f32) : FVec F S2048 .f32 :=
  Host.sqrt (Host.reduceAdd (mulf z z) (constant S_ .f32 0x00000000#32) reducesTo_S2048x128_S2048_d1 h_S_)

/-- The norms of the rows. -/
theorem norm_v3 : after hostOps0_1 X (Proc.devRef .tc main_v3) = radiiOf (X (Proc.devRef .tc main_arg0)) := by
  after_results_simp
  simp only [TRef.ofBuf_toBuf]
  rfl

/-- The differences of a vector's entries: entry `(i, j)` is `v i - v j`. -/
def rowMinusCol (v : FVec F S2048 .f32) : FVec F S2048x2048 .f32 :=
  subf (broadcastInDim S2048x2048 ![0, 1] bcast_S2048x1_S2048x2048_0_1 (broadcastInDim S2048x1 ![0] bcast_S2048_S2048x1_0 v))
    (broadcastInDim S2048x2048 ![0, 1] bcast_S1x2048_S2048x2048_0_1 (broadcastInDim S1x2048 ![1] bcast_S2048_S1x2048_1 v))

/-- The differences of a vector's entries the other way round: entry `(i, j)` is `r j - r i`. -/
def colMinusRow (r : FVec F S2048 .f32) : FVec F S2048x2048 .f32 :=
  subf (broadcastInDim S2048x2048 ![0, 1] bcast_S1x2048_S2048x2048_0_1 (broadcastInDim S1x2048 ![1] bcast_S2048_S1x2048_1 r))
    (broadcastInDim S2048x2048 ![0, 1] bcast_S2048x1_S2048x2048_0_1 (broadcastInDim S2048x1 ![0] bcast_S2048_S2048x1_0 r))

/-- A scalar at every pair. -/
def pairs (x : FVec F S_ .f32) : FVec F S2048x2048 .f32 := broadcastInDim S2048x2048 ![] bcast_S_S2048x2048 x

/-- The mask of the pairs that differ. -/
def maskOf (d : FVec F S2048x2048 .f32) : FVec F S2048x2048 .f32 :=
  uitofp .f32 (cmpf .une d (pairs (constant S_ .f32 0x00000000#32)))

/-- The violations, weighted and masked. -/
def weightedOf (t : FVec F S_ .f32) (d e : FVec F S2048x2048 .f32) : FVec F S2048x2048 .f32 :=
  mulf (mulf (Host.divf (pairs (constant S_ .f32 0x3F800000#32))
      (addf (pairs (constant S_ .f32 0x3F800000#32)) (Host.exp (Host.negf (Host.divf (Host.negf (mulf (Host.sign d) e)) (pairs t))))))
    (Host.absf d)) (maskOf d)

/-- The mean of the weighted violations over the pairs that differ. -/
def lossOf (t : FVec F S_ .f32) (v r : FVec F S2048 .f32) : FVec F S_ .f32 :=
  Host.divf (Host.reduceAdd (weightedOf t (rowMinusCol v) (colMinusRow r)) (constant S_ .f32 0x00000000#32) reducesTo_S2048x2048_S_d0_1 h_S_)
    (maximumf (Host.reduceAdd (maskOf (rowMinusCol v)) (constant S_ .f32 0x00000000#32) reducesTo_S2048x2048_S_d0_1 h_S_)
      (constant S_ .f32 0x3F800000#32))

set_option maxHeartbeats 1600000 in
/-- What follows the loop computes the loss. -/
theorem post_v34 : after hostOps0_2 X (Proc.devRef .tc main_v34)
    = lossOf (X (Proc.devRef .tc main_v0)) (X (Proc.devRef .tc main_v2_3)) (X (Proc.devRef .tc main_v3)) := by
  after_results
  rfl

end generic

section value
variable {F : FTy → Type} [FloatOps F] (m : (ℓ : Loc nD τ sig) → Buf (Elt F) ℓ) (c : Dev nD)

/-- The reference's result as a function of its two arguments. -/
def resultOf (z : FVec F S2048x128 .f32) (bi : IVec S2048 32) : FVec F S_ .f32 :=
  lossOf (Host.divf (constant (F := F) S_ .f32 0x3F800000#32) (constant (F := F) S_ .f32 0x41200000#32))
    (fun i => countAt (F := F) (bi i) 16) (radiiOf z)

/-- The result at the end of the program. -/
theorem final_v34 : finalContents condOps preI bodyI postI 16 m c (Proc.devRef .tc main_v34)
    = resultOf (embArg m c) (idxArg m c) := by
  show afterL postI (exitC m c) _ = _
  simp only [afterL_cons, afterL_nil]
  rw [post_v34, norm_v3]
  have h0 : ∀ (Y : Valuation τ sig (Elt F)), after hostOps0_1 Y (Proc.devRef .tc main_v0) = Y (Proc.devRef .tc main_v0) := by
    intro Y; after_results
  have h1 : ∀ (Y : Valuation τ sig (Elt F)), after hostOps0_1 Y (Proc.devRef .tc main_v2_3) = Y (Proc.devRef .tc main_v2_3) := by
    intro Y; after_results
  rw [h0, h1, exit_count, exit_keep m c main_v0 (by decide +kernel), entry_temp,
    exit_keep m c main_arg0 (by decide +kernel), entry_keep m c main_arg0 (by decide +kernel)]
  rfl

/-- The reference's run with its result: the loss of its arguments, which end unchanged. -/
theorem run (ρ : Dev nD → PrngReg) :
    θ_run (defs (F := F)) (onTc (τ := τ) (main (F := F))) ⟨m, fun _ => 0, ρ⟩ (fun r => ∀ c : Dev nD,
      r.2.mem ((c.tc : Thread nD τ).loc main_v34) = resultOf (embArg m c) (idxArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v34 rfl).trans (final_v34 m c), (h c main_arg0 rfl).trans (final_arg0 m c),
    (h c main_arg1 rfl).trans (final_arg1 m c)⟩) (run_fold m ρ)

end value

/-- A word of one bit as a float. -/
theorem bit_float (p : Prop) [Decidable p] : FloatOps.uitofp (F := Ideal) .f32 (BitVec.ofBool (decide p)) = if p then (1 : EReal) else 0 := by
  show (((BitVec.ofBool (decide p)).toNat : ℝ) : EReal) = _
  by_cases h : p <;> simp [h]

/-- A pair's weighted violation at the ideal instance. -/
def pairTerm (t vi vj ri rj : EReal) : EReal :=
  Ideal.div 1 (1 + Ideal.exp (-(Ideal.div (-(Ideal.sign (vi - vj) * (rj - ri))) t))) * max (vi - vj) (-(vi - vj))
    * (if vi - vj ≠ 0 then 1 else 0)

/-- The host's sum over both axes is the double sum. -/
theorem total_apply (x : FVec Ideal S2048x2048 .f32) :
    Host.reduceAdd x (constant (F := Ideal) S_ .f32 0x00000000#32) reducesTo_S2048x2048_S_d0_1 h_S_ ix0
      = ∑ i : Fin 2048, ∑ j : Fin 2048, x (ix2 i j) := by
  rw [ValueIdx.hostReduceAdd_apply, Ideal.hostReduceAdd_total _ (fun b => b.elim0), sum_idx2]
  show Ideal.ofBits .f32 0x00000000#32 + _ = _
  rw [Ideal.ofBits_zero_f32, zero_add]

/-- The mask of a pair: one where the valuations differ. -/
theorem mask_apply (v : FVec Ideal S2048 .f32) (i j : Fin 2048) :
    maskOf (rowMinusCol v) (ix2 i j) = if v (ix1 i) - v (ix1 j) ≠ 0 then (1 : EReal) else 0 := by
  pointwise [rowMinusCol, maskOf, pairs]
  exact bit_float _

/-- The weighted violation of a pair. -/
theorem weighted_apply (t : FVec Ideal S_ .f32) (v r : FVec Ideal S2048 .f32) (i j : Fin 2048) :
    weightedOf t (rowMinusCol v) (colMinusRow r) (ix2 i j)
      = pairTerm (t ix0) (v (ix1 i)) (v (ix1 j)) (r (ix1 i)) (r (ix1 j)) := by
  pointwise [weightedOf, rowMinusCol, colMinusRow, maskOf, pairs]
  rw [bit_float]
  rfl

/-- The loss as a quotient of two double sums. -/
theorem loss_apply (t : FVec Ideal S_ .f32) (v r : FVec Ideal S2048 .f32) :
    lossOf t v r ix0 = Ideal.div
      (∑ i : Fin 2048, ∑ j : Fin 2048, pairTerm (t ix0) (v (ix1 i)) (v (ix1 j)) (r (ix1 i)) (r (ix1 j)))
      (max (∑ i : Fin 2048, ∑ j : Fin 2048, if v (ix1 i) - v (ix1 j) ≠ 0 then (1 : EReal) else 0) 1) := by
  unfold lossOf
  rw [ValueIdx.hostDivf_apply, ValueIdx.maximumf_apply, total_apply, total_apply, ValueIdx.constant_apply, Ideal.ofBits_one_f32]
  simp only [weighted_apply, mask_apply]

/-- A radius is the root of the sum of squares. -/
theorem radii_apply (z : FVec Ideal S2048x128 .f32) (i : Fin 2048) :
    radiiOf z (ix1 i) = Ideal.sqrt (∑ k : Fin 128, z (ix2 i k) * z (ix2 i k)) := by
  pointwise [radiiOf]

end Cert.RefSteps

end
-- ==== Proof.Ker.Loads.lean ====
/- What the kernel's run leaves in its output cell: the scalar that its arithmetic makes of the index block and of
   the four row bands of the embeddings, each band copied into scratch by one transfer and loaded back. -/
module

public import proofs.«01_k».proof.Proof.Gen.KernelIdeal.Frame
public import Idealize.ShloMosaic.Lib.Pipeline.Value

@[expose] public section

set_option maxRecDepth 16384

noncomputable section

namespace Cert.KerValue

open Idealize.ShloMosaic Idealize.ShloMosaic.TcCoe Idealize.ShloMosaic.Tactic
open Cert.KernelIdeal Cert.KernelIdeal.Gen

variable {F : FTy → Type} [FloatOps F]

/-! ## The scalar -/

/-- The counts, the remaining numbers, their thirds and the two comparisons' operands after four divisions. -/
def count4 (x : Vec F S2048 .i32) : FVec F S1x2048 .f32 := k0_pay16 (k0_pay2 x) k0_pay3 (k0_pay4 x) (k0_pay5 x) (k0_pay6 x)

/-- The rest after 4 divisions. -/
def rest4 (x : Vec F S2048 .i32) : FVec F S1x2048 .f32 := k0_pay17 (k0_pay2 x) (k0_pay4 x) (k0_pay5 x)

/-- The rounded third of the rest after 4 divisions. -/
def third4 (x : Vec F S2048 .i32) : FVec F S1x2048 .f32 := k0_pay18 (k0_pay2 x) (k0_pay4 x) (k0_pay5 x)

/-- The test for a positive rest after 4 divisions. -/
def positive4 (x : Vec F S2048 .i32) : IVec S1x2048 1 := k0_pay19 (k0_pay2 x) (k0_pay4 x) (k0_pay5 x)

/-- Three times the rounded third after 4 divisions. -/
def thrice4 (x : Vec F S2048 .i32) : FVec F S1x2048 .f32 := k0_pay20 (k0_pay2 x) (k0_pay4 x) (k0_pay5 x)
/-- The same after eight. -/
def count8 (x : Vec F S2048 .i32) : FVec F S1x2048 .f32 := k0_pay31 (count4 x) (rest4 x) (third4 x) (positive4 x) (thrice4 x)

/-- The rest after 8 divisions. -/
def rest8 (x : Vec F S2048 .i32) : FVec F S1x2048 .f32 := k0_pay32 (rest4 x) (third4 x) (positive4 x) (thrice4 x)

/-- The rounded third of the rest after 8 divisions. -/
def third8 (x : Vec F S2048 .i32) : FVec F S1x2048 .f32 := k0_pay33 (rest4 x) (third4 x) (positive4 x) (thrice4 x)
/-- The same after twelve. -/
def count12 (x : Vec F S2048 .i32) : FVec F S1x2048 .f32 := k0_pay45 (count8 x) (rest8 x) (third8 x) k0_pay34

/-- The rest after 12 divisions. -/
def rest12 (x : Vec F S2048 .i32) : FVec F S1x2048 .f32 := k0_pay46 (rest8 x) (third8 x) k0_pay34

/-- The valuations after the thirteenth division, the histogram's constant and the number of unequal pairs. -/
def valuations (x : Vec F S2048 .i32) : FVec F S1x2048 .f32 := k0_pay48 (count12 x) (rest12 x) k0_pay47

/-- The histogram's constant. -/
def binConstant (x : Vec F S2048 .i32) : F .f32 := k0_pay51 (count12 x) (rest12 x) k0_pay47

/-- The number of pairs of unequal valuations. -/
def pairCount (x : Vec F S2048 .i32) : F .f32 := k0_pay52 (count12 x) (rest12 x) k0_pay47

/-- The column sums of each band's tangents over the bands up to it. -/
def down0 (b0 : Vec F S512x128 .f32) : FVec F S1x512 .f32 := k0_pay64 k0_pay53 k0_pay55 b0

/-- The second band's column sums. -/
def down1 (b0 b1 : Vec F S512x128 .f32) : FVec F S1x512 .f32 :=
  k0_pay69 k0_pay53 k0_pay56 (k0_pay65 b1) (k0_pay66 b1) (k0_pay67 b0 b1)

/-- The third band's column sums. -/
def down2 (b0 b1 b2 : Vec F S512x128 .f32) : FVec F S1x512 .f32 :=
  k0_pay78 k0_pay53 (k0_pay75 k0_pay53 k0_pay57 (k0_pay63 b0) (k0_pay65 b1) b2) (k0_pay77 b2)
/-- The fourth band's without its last block. -/
def down3 (b0 b1 b2 b3 : Vec F S512x128 .f32) : FVec F S1x512 .f32 :=
  k0_pay86 k0_pay53 k0_pay58 (k0_pay63 b0) (k0_pay65 b1) (k0_pay70 b2) b3

/-- The row sums of each band's tangents over the bands after it, with their sign turned. -/
def across0 (b0 b1 b2 b3 : Vec F S512x128 .f32) : FVec F S512x1 .f32 :=
  k0_pay82 k0_pay54 (k0_pay63 b0) (k0_pay73 k0_pay54 k0_pay59 (k0_pay63 b0) (k0_pay67 b0 b1) b2) b3

/-- The second band's row sums. -/
def across1 (b1 b2 b3 : Vec F S512x128 .f32) : FVec F S512x1 .f32 :=
  k0_pay84 k0_pay54 (k0_pay65 b1) (k0_pay76 k0_pay54 k0_pay60 (k0_pay65 b1) b2) b3

/-- The third band's row sums. -/
def across2 (b2 b3 : Vec F S512x128 .f32) : FVec F S512x1 .f32 := k0_pay87 k0_pay54 k0_pay61 (k0_pay70 b2) b3

/-- What the kernel stores, of the indices and the four bands. -/
def stored (x : Vec F S2048 .i32) (b0 b1 b2 b3 : Vec F S512x128 .f32) : F .f32 :=
  k0_pay1 (valuations x) (binConstant x) (pairCount x) k0_pay53 k0_pay62 (down0 b0) (down1 b0 b1) (down2 b0 b1 b2)
    (across0 b0 b1 b2 b3) (across1 b1 b2 b3) (down3 b0 b1 b2 b3) (across2 b2 b3) (k0_pay88 b3)
    (constant S1x512 .f32 0x00000000#32)

/-! ## The loads -/

/-- The rectangle of 512 whole rows from row `o`. -/
abbrev bandRect (o : ℕ) (inb : ∀ a, (![o, 0] : Fin 2 → ℕ) a + S512x128.size a ≤ S2048x128.size a) : Rect S2048x128 :=
  Rect.unit (s := S2048x128) ![o, 0] S512x128.size inb

/-- The 512 rows from row `o`. -/
def band (fh : Vec F S2048x128 .f32) (o : ℕ) (inb : ∀ a, (![o, 0] : Fin 2 → ℕ) a + S512x128.size a ≤ S2048x128.size a) :
    Vec F S512x128 .f32 := fun j => fh ((bandRect o inb).emb j)

/-- A load of a rectangle that one of the pieces covers is the array's own rows, where every piece holds the array's
    rows. -/
theorem load_band (v : View sig .tc .vmem S2048x128 .f32) (fh : Vec F S2048x128 .f32)
    (L : List (View.Piece (Elt F) S2048x128 .f32)) (hL : ∀ p ∈ L, ∀ x : p.1.shape.Idx, p.2 x = fh (p.1.emb x))
    (o : ℕ) (inb) (hm : ∃ p ∈ L, p.1 = bandRect o inb) : v.readCov L (bandRect o inb).toLoadRect = band fh o inb := by
  rw [View.readCov_eq_canon']
  funext j
  refine View.canon_apply_of_pieces fh L hL _ ?_
  obtain ⟨p, hp, e⟩ := hm
  exact ⟨p, hp, by rw [e]; exact (bandRect o inb).toLoadRect.idx_mem j⟩

/-- The kernel's output cell after its run. -/
theorem out_eq (c : Dev nD) (arg0 : Memref sig .tc .vmem S2048 .i32) (harg0 : arg0.IsWhole) (arg2 : Memref sig .tc .smem S1x1 .f32) (harg2 : arg2.IsWhole) (arg3 : Memref sig .tc .vmem S2048x128 .f32) (harg3 : arg3.IsWhole)
    (x0 : Vec F S2048 .i32) (fh0 : HbBuf0 (F := F) c hbM0_0) (y : S1x1.Idx) :
    out0_A_1 c arg0 harg0 arg2 harg2 arg3 harg3 x0 fh0 y
      = stored x0 (band fh0 0 inb_S2048x128_S512x128_0_0) (band fh0 512 inb_S2048x128_S512x128_512_0)
          (band fh0 1024 inb_S2048x128_S512x128_1024_0) (band fh0 1536 inb_S2048x128_S512x128_1536_0) := by
  unfold out0_A_1
  rw [View.read_writes_eq_canon _ _ _ (cover0_A_1 c arg0 harg0 arg2 harg2 arg3 harg3 x0 fh0)]
  unfold kernelRun0_A
  dsimp only
  sl_unfold_words
  have hz2 : (![0, 0] : Fin 2 → ℕ) = fun _ => 0 := by decide
  have hz1 : (![0] : Fin 1 → ℕ) = fun _ => 0 := by decide
  rw [View.canon_unit_zero (S := S1x1) hz2]
  simp only [View.readAt_eq_ld, harg0.read_unread, View.ld_unit_zero (S := S2048) hz1]
  rw [load_band arg3.view fh0 _ ?hL 0 inb_S2048x128_S512x128_0_0 ?h0, load_band arg3.view fh0 _ ?hL 512 inb_S2048x128_S512x128_512_0 ?h1,
    load_band arg3.view fh0 _ ?hL 1024 inb_S2048x128_S512x128_1024_0 ?h2, load_band arg3.view fh0 _ ?hL 1536 inb_S2048x128_S512x128_1536_0 ?h3]
  · rfl
  case hL =>
    intro p hp x
    simp only [List.mem_cons, List.mem_nil_iff, or_false] at hp
    rcases hp with rfl | rfl | rfl | rfl <;> rfl
  case h0 => exact ⟨_, .tail _ (.tail _ (.tail _ (.head _))), rfl⟩
  case h1 => exact ⟨_, .tail _ (.tail _ (.head _)), rfl⟩
  case h2 => exact ⟨_, .tail _ (.head _), rfl⟩
  case h3 => exact ⟨_, .head _, rfl⟩

end Cert.KerValue

end
-- ==== Proof.Ker.Run.lean ====
/- The kernel's run at its result: the returned scalar is what the body stores, and the arguments end as launched. -/
module

public import proofs.«01_k».proof.Proof.Ker.Loads

@[expose] public section

set_option maxRecDepth 16384

noncomputable section

namespace Cert.KerValue

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ) (ρ : Dev nD → PrngReg)

/-- The arguments on core `c`: the embeddings and the indices. -/
abbrev embArg (c : Dev nD) : Vec F S2048x128 .f32 := m ((c.tc : Thread nD τ).loc main_arg0)
abbrev idxArg (c : Dev nD) : Vec F S2048 .i32 := m ((c.tc : Thread nD τ).loc main_arg1)

/-- What the kernel stores, of its two arguments. -/
def storedOf (z : Vec F S2048x128 .f32) (x : Vec F S2048 .i32) : F .f32 :=
  stored x (band z 0 inb_S2048x128_S512x128_0_0) (band z 512 inb_S2048x128_S512x128_512_0)
    (band z 1024 inb_S2048x128_S512x128_1024_0) (band z 1536 inb_S2048x128_S512x128_1536_0)

/-- The window on the indices stays at the start. -/
theorem index0_zero : ∀ t : Fin cfg0.N, win0_0.index t (0 : Fin 1) = 0 := (by decide +kernel : ∀ t : Fin grid0.N, _)

/-- The index window's one block is the whole array. -/
theorem iblk_eq (c : Dev nD) (t : Fin cfg0.N) : iblk m c 0 t = idxArg m c := by
  have e : ∀ y : S2048.Idx, ((cfg0.win 0).blk t).view.emb y = y := fun y => by
    have := index0_zero t
    refine funext fun (a : Fin 1) => Fin.ext ?_
    obtain rfl : a = 0 := Subsingleton.elim _ _
    show win0_0.index t (0 : Fin 1) * 2048 + 1 * (y 0).val = (y 0).val; omega
  funext y
  show V m c main_arg1 (((cfg0.win 0).blk t).view.emb y) = _
  rw [e]
  rfl

/-- The window on the result visits one place. -/
theorem index1_inj : ∀ t t' : Fin cfg0.N, win0_1.index t = win0_1.index t' → t = t' :=
  (by decide +kernel : ∀ t t' : Fin grid0.N, win0_1.index t = win0_1.index t' → t = t')

/-- The output array after the run. -/
theorem arr_final (c : Dev nD) : (dats m 0 c).arrAt 1 cfg0.N = fun _ => storedOf (embArg m c) (idxArg m c) := by
  have hb := (dats m 0 c).read_blk_arrAt_eq_flushed 1
    (fun t t' _ _ hne => (cfg0.win 1).disjoint_blk fun h => hne (index1_inj t t' h)) cfg0.N t0_0 t0_0.isLt rfl
  have hs : ∀ a b : S1x1.Idx, a = b := fun a b => funext fun i => Fin.ext (by
    have ha : (a i).val < 1 := by have := (a i).isLt; fin_cases i <;> exact this
    have hb : (b i).val < 1 := by have := (b i).isLt; fin_cases i <;> exact this
    omega)
  funext y
  have h := congrFun hb y
  have h' : (dats m 0 c).arrAt 1 cfg0.N (((cfg0.win 1).blk t0_0).view.emb y) = (dats m 0 c).after 1 t0_0 y := h
  rw [after0_1, hs (((cfg0.win 1).blk t0_0).view.emb y) y] at h'
  rw [h']
  unfold outsAt0
  rw [out_eq, iblk_eq]
  rfl

/-- The reshape after the kernel reads the array's one element. -/
theorem tail_result (c : Dev nD) :
    Pipeline.afterTail₀ cfgs (dats m) 0 (V0 m) [hostOps1] c main_v1 = fun _ => storedOf (embArg m c) (idxArg m c) := by
  unfold Pipeline.afterTail₀
  have h : Pipeline.withArrays (cfgs 0).spec c (V0 m c) (fun w => (dats m 0 c).arrAt w (cfgs 0).N) (Proc.devRef .tc main_v0)
      = fun _ => storedOf (embArg m c) (idxArg m c) :=
    (Pipeline.withArrays_arr (cfgs 0).spec (by decide) c (V0 m c) _ (1 : Fin 2)).trans (arr_final m c)
  show StableHlo.after hostOps1 _ _ = _
  after_results
  rw [h]
  rfl

/-- THE KERNEL'S RUN: every core's result is the stored scalar, and its arguments are as launched. -/
theorem run : θ_run defs (onTc (τ := τ) (main (F := F))) ⟨m, fun _ => 0, ρ⟩ (fun r => ∀ c : Dev nD,
      r.2.mem ((c.tc : Thread nD τ).loc main_v1) = (fun _ => storedOf (embArg m c) (idxArg m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v1 (Pipeline.mem_restRefs_of main_v1 (by decide) (by decide))).trans (tail_result m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KerValue

end
-- ==== Proof.Pre.lean ====
/- What the precondition says: every entry of the embeddings is a real number and every index is below 3^14. -/
module

public import proofs.«01_k».proof.Pre_finite_below_3_14
public import Idealize.ShloMosaic.PureOps.Ideal
public import Idealize.ShloMosaic.Lib.ReduceAll
public import Idealize.ShloMosaic.Lib.Pointwise

@[expose] public section

set_option maxRecDepth 16384

noncomputable section

namespace Cert.Bounds

open Idealize.ShloMosaic Cert.Pre_finite_below_3_14

/-- The shape relations of the precondition's operations. -/
instance facts : Cert.Pre_finite_below_3_14.Facts where
  bcast_S_S2048x128 := by decide
  reducesTo_S2048x128_S_d0_1 := by decide
  h_S_ := by decide
  bcast_S_S2048 := by decide
  reducesTo_S2048_S_d0 := by decide

/-- The bound on the embeddings is infinity. -/
theorem infinity_word : Ideal.ofBits .f32 0x7F800000#32 = ⊤ := by
  simp [Ideal.ofBits, Ideal.ieee]

/-- A number whose absolute value is below infinity is real. -/
theorem real_of_abs {x : EReal} (h : max x (-x) < ⊤) : ∃ a : ℝ, x = (a : EReal) := by
  induction x with
  | bot => simp at h
  | top => simp at h
  | coe a => exact ⟨a, rfl⟩

/-- The result of the precondition has one index. -/
instance : Subsingleton S_.Idx := ⟨fun a b => funext fun i => i.elim0⟩

/-- The precondition, read entry by entry. -/
theorem read (z : FVec Ideal S2048x128 .f32) (bi : IVec S2048 32)
    (h : Cert.Pre_finite_below_3_14.fn (F := Ideal) z bi = fun _ => 1#1) :
    (∀ i k, ∃ a : ℝ, z (ix2 i k) = (a : EReal)) ∧ ∀ i, (bi (ix1 i)).toInt < 4782969 := by
  have h0 := congrFun h ix0
  obtain ⟨hz, hb⟩ := IntOp.andi_eq_one.1 h0
  constructor
  · intro i k
    have e := Host.reduce_andi_all _ _ _ _ _ hz (ix2 i k)
    have e' : BitVec.ofBool (decide (max (z (ix2 i k)) (-(z (ix2 i k))) < Ideal.ofBits .f32 0x7F800000#32)) = 1#1 := e
    rw [infinity_word] at e'
    apply real_of_abs
    by_contra hc
    rw [decide_eq_false hc] at e'
    exact absurd e' (by decide)
  · intro i
    have e := Host.reduce_andi_all _ _ _ _ _ hb (ix1 i)
    have e' : BitVec.ofBool ((bi (ix1 i)).slt 4782969#32) = 1#1 := e
    rw [BitVec.slt_eq_decide] at e'
    by_contra hc
    rw [decide_eq_false (by simpa using hc)] at e'
    exact absurd e' (by decide)

end Cert.Bounds

end
-- ==== Proof.Ker.Blocks.lean ====
/- The kernel's block sums read index by index over the extended reals. -/
module

public import proofs.«01_k».proof.Proof.Ker.Loads
public import Idealize.ShloMosaic.Lib.Pointwise

@[expose] public section

set_option maxRecDepth 16384

noncomputable section

namespace Cert.KerValue

open Idealize.ShloMosaic
open Cert.KernelIdeal Cert.KernelIdeal.Gen

/-- The factor of the radii is five. -/
theorem five_word : Ideal.ofBits .f32 0x40A00000#32 = ((5 : ℝ) : EReal) := by
  simp [Ideal.ofBits, Ideal.ieee, -EReal.coe_mul]; norm_num

/-- Five times the norm of row `i` of a band. -/
def rad (b : Vec Ideal S512x128 .f32) (i : Fin 512) : EReal :=
  Ideal.sqrt (∑ k : Fin 128, b (ix2 i k) * b (ix2 i k)) * ((5 : ℝ) : EReal)

section reads
variable (b b0 b1 b2 b3 : Vec Ideal S512x128 .f32)

/-- The first band's scaled radii. -/
theorem pay63_at (i : Fin 512) : k0_pay63 (F := Ideal) b (ix2 i 0) = rad b i := by
  pointwise [k0_pay63]
  rw [five_word]; rfl

/-- The second band's scaled radii. -/
theorem pay65_at (i : Fin 512) : k0_pay65 (F := Ideal) b (ix2 i 0) = rad b i := pay63_at b i

/-- The third band's scaled radii. -/
theorem pay70_at (i : Fin 512) : k0_pay70 (F := Ideal) b (ix2 i 0) = rad b i := pay63_at b i

/-- The fourth band's scaled radii. -/
theorem pay79_at (i : Fin 512) : k0_pay79 (F := Ideal) b (ix2 i 0) = rad b i := pay63_at b i

/-- The first band's column sums. -/
theorem down0_at (j : Fin 512) : down0 b0 (ix2 0 j) = ∑ i : Fin 512, Ideal.tanh (rad b0 j - rad b0 i) := by
  unfold down0
  pointwise [k0_pay64, k0_pay53, k0_pay55]
  simp only [pay63_at]

/-- The second band's column sums. -/
theorem down1_at (j : Fin 512) : down1 b0 b1 (ix2 0 j)
    = (∑ i : Fin 512, Ideal.tanh (rad b1 j - rad b0 i)) + ∑ i : Fin 512, Ideal.tanh (rad b1 j - rad b1 i) := by
  unfold down1
  pointwise [k0_pay69, k0_pay68, k0_pay67, k0_pay66, k0_pay53, k0_pay56]
  simp only [pay63_at, pay65_at]

/-- The third band's column sums. -/
theorem down2_at (j : Fin 512) : down2 b0 b1 b2 (ix2 0 j)
    = (∑ i : Fin 512, Ideal.tanh (rad b2 j - rad b0 i)) + (∑ i : Fin 512, Ideal.tanh (rad b2 j - rad b1 i))
      + ∑ i : Fin 512, Ideal.tanh (rad b2 j - rad b2 i) := by
  unfold down2
  pointwise [k0_pay78, k0_pay75, k0_pay77, k0_pay74, k0_pay72, k0_pay71, k0_pay53, k0_pay57]
  simp only [pay63_at, pay65_at, pay70_at]

/-- The fourth band's column sums without its last block. -/
theorem down3_at (j : Fin 512) : down3 b0 b1 b2 b3 (ix2 0 j)
    = (∑ i : Fin 512, Ideal.tanh (rad b3 j - rad b0 i)) + (∑ i : Fin 512, Ideal.tanh (rad b3 j - rad b1 i))
      + ∑ i : Fin 512, Ideal.tanh (rad b3 j - rad b2 i) := by
  unfold down3
  pointwise [k0_pay86, k0_pay85, k0_pay83, k0_pay81, k0_pay80, k0_pay53, k0_pay58]
  simp only [pay63_at, pay65_at, pay70_at, pay79_at]

/-- The first band's row sums, over the three bands after it. -/
theorem across0_at (i : Fin 512) : across0 b0 b1 b2 b3 (ix2 i 0)
    = 0 - (∑ j : Fin 512, Ideal.tanh (rad b1 j - rad b0 i)) - (∑ j : Fin 512, Ideal.tanh (rad b2 j - rad b0 i))
      - ∑ j : Fin 512, Ideal.tanh (rad b3 j - rad b0 i) := by
  unfold across0
  pointwise [k0_pay82, k0_pay73, k0_pay81, k0_pay72, k0_pay71, k0_pay80, k0_pay68, k0_pay67, k0_pay66, k0_pay54, k0_pay59]
  simp only [pay63_at, pay65_at, pay70_at, pay79_at]

/-- The second band's row sums, over the two bands after it. -/
theorem across1_at (i : Fin 512) : across1 b1 b2 b3 (ix2 i 0)
    = 0 - (∑ j : Fin 512, Ideal.tanh (rad b2 j - rad b1 i)) - ∑ j : Fin 512, Ideal.tanh (rad b3 j - rad b1 i) := by
  unfold across1
  pointwise [k0_pay84, k0_pay76, k0_pay83, k0_pay74, k0_pay71, k0_pay80, k0_pay54, k0_pay60]
  simp only [pay63_at, pay65_at, pay70_at, pay79_at]

/-- The third band's row sums, over the last band. -/
theorem across2_at (i : Fin 512) : across2 b2 b3 (ix2 i 0) = 0 - ∑ j : Fin 512, Ideal.tanh (rad b3 j - rad b2 i) := by
  unfold across2
  pointwise [k0_pay87, k0_pay85, k0_pay80, k0_pay54, k0_pay61]
  simp only [pay63_at, pay65_at, pay70_at, pay79_at]

/-- The last diagonal block's entries. -/
theorem last_at (i j : Fin 512) : k0_pay88 (F := Ideal) b3 (ix2 i j) = Ideal.tanh (rad b3 j - rad b3 i) := by
  pointwise [k0_pay88, k0_pay80]
  simp only [pay79_at]

end reads

/-- The final scalar, of any valuations, constant, pair count and block sums. -/
theorem pay1_at (v : FVec Ideal S1x2048 .f32) (c d : Ideal .f32) (t3 : FVec Ideal S512x1 .f32) (d0 d1 d2 d3 : FVec Ideal S1x512 .f32)
    (t0 t1 t2 : FVec Ideal S512x1 .f32) (l : FVec Ideal S512x512 .f32) :
    k0_pay1 v c d k0_pay53 t3 d0 d1 d2 t0 t1 d3 t2 l (constant S1x512 .f32 0x00000000#32)
      = Ideal.div (c
          + (∑ j : Fin 512, v (ix2 0 ⟨j.val, by omega⟩) * (d0 (ix2 0 j) + t0 (ix2 j 0)))
          + (∑ j : Fin 512, v (ix2 0 ⟨512 + j.val, by omega⟩) * (d1 (ix2 0 j) + t1 (ix2 j 0)))
          + (∑ j : Fin 512, v (ix2 0 ⟨1024 + j.val, by omega⟩) * (d2 (ix2 0 j) + t2 (ix2 j 0)))
          + (∑ j : Fin 512, v (ix2 0 ⟨1536 + j.val, by omega⟩) * ((d3 (ix2 0 j) + ∑ i : Fin 512, l (ix2 i j)) + t3 (ix2 j 0))))
          (max d 1) := by
  pointwise [k0_pay1, k0_pay53]
  simp only [Fin.sum_univ_one]
  try rfl

/-- The bin `b`'s float. -/
theorem bin_at (b : Fin 16) : FloatOps.sitofp (F := Ideal) .f32 (BitVec.ofNat 32 b.val) = (((b.val : ℝ)) : EReal) := by
  show (((BitVec.ofNat 32 b.val).toInt : ℝ) : EReal) = _
  have h : (BitVec.ofNat 32 b.val).toInt = (b.val : ℤ) := by
    rw [BitVec.toInt_eq_toNat_cond, BitVec.toNat_ofNat]
    have := b.isLt
    split_ifs <;> omega
  rw [h]; norm_cast

/-- A one-bit test, widened to a word and made a float, is one or zero. -/
theorem test_at (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

/-- The number of ordered pairs of 2048 indices. -/
theorem whole_word : Ideal.ofBits .f32 0x4A800000#32 = ((4194304 : ℝ) : EReal) := by
  simp [Ideal.ofBits, Ideal.ieee, -EReal.coe_mul]; norm_num

/-- The number of indices whose valuation is `b`, as the program counts it. -/
def tally (v : FVec Ideal S1x2048 .f32) (b : Fin 16) : EReal :=
  ∑ j : Fin 2048, if ((b.val : ℝ) : EReal) = v (ix2 0 j) then (1 : EReal) else 0

/-- The excess of the bin `b` over the valuations below it. -/
def excess (v : FVec Ideal S1x2048 .f32) (b : Fin 16) : EReal :=
  ∑ j : Fin 2048, max (((b.val : ℝ) : EReal) - v (ix2 0 j)) 0

/-- The histogram's constant, of the valuations. -/
theorem pay51_at (a m q : FVec Ideal S1x2048 .f32) : k0_pay51 (F := Ideal) a m q
      = ∑ b : Fin 16, tally (k0_pay48 a m q) b * excess (k0_pay48 a m q) b := by
  unfold tally excess
  pointwise [k0_pay51, k0_pay50, k0_pay49]
  simp only [Fin.sum_univ_one, bin_at, test_at]

/-- The number of ordered pairs less those within one bin. -/
theorem pay52_at (a m q : FVec Ideal S1x2048 .f32) : k0_pay52 (F := Ideal) a m q
      = ((4194304 : ℝ) : EReal) - ∑ b : Fin 16, tally (k0_pay48 a m q) b * tally (k0_pay48 a m q) b := by
  unfold tally
  pointwise [k0_pay52, k0_pay50, k0_pay49]
  simp only [Fin.sum_univ_one, bin_at, test_at]
  rw [← whole_word]

end Cert.KerValue

end
-- ==== Proof.Math.Valuation.lean ====
/- How often three divides an integer, counted by repeated division. -/
module

public import Mathlib.Tactic.Ring
public import Mathlib.Tactic.NormNum

@[expose] public section

namespace Cert.Valuation

/-- One division: a positive multiple of three loses a factor of three, any other integer stays. -/
def cut (n : ℤ) : ℤ := if 0 < n ∧ (3 : ℤ) ∣ n then n / 3 else n

/-- What is left after `k` divisions. -/
def restOf (n : ℤ) : ℕ → ℤ
  | 0 => n
  | k + 1 => cut (restOf n k)

/-- How many of the first `k` divisions divided. -/
def timesCut (n : ℤ) : ℕ → ℕ
  | 0 => 0
  | k + 1 => timesCut n k + if 0 < restOf n k ∧ (3 : ℤ) ∣ restOf n k then 1 else 0

/-- Of `k` divisions at most `k` divide. -/
theorem timesCut_le (n : ℤ) (k : ℕ) : timesCut n k ≤ k := by
  induction k with
  | zero => simp [timesCut]
  | succ k ih => simp only [timesCut]; split_ifs <;> omega

/-- A division does not raise an integer above a bound. -/
theorem cut_lt {n B : ℤ} (h : n < B) : cut n < B := by
  unfold cut
  split_ifs with hc
  · obtain ⟨h0, d, rfl⟩ := hc
    omega
  · exact h

/-- Divisions do not raise an integer above a bound. -/
theorem restOf_lt {n B : ℤ} (h : n < B) (k : ℕ) : restOf n k < B := by
  induction k with
  | zero => exact h
  | succ k ih => exact cut_lt ih

/-- After `k` divisions either every one divided, or what is left is divided no more. -/
theorem rest_or_done (n : ℤ) (k : ℕ) :
    restOf n k * 3 ^ k = n ∨ ¬ (0 < restOf n k ∧ (3 : ℤ) ∣ restOf n k) := by
  induction k with
  | zero => left; simp [restOf]
  | succ k ih =>
    by_cases hc : 0 < restOf n k ∧ (3 : ℤ) ∣ restOf n k
    · rcases ih with ih | ih
      · left
        have e : restOf n (k + 1) = restOf n k / 3 := if_pos hc
        obtain ⟨d, hd⟩ := hc.2
        rw [hd] at ih
        rw [e, hd, Int.mul_ediv_cancel_left _ (by norm_num), ← ih]
        ring
      · exact absurd hc ih
    · right
      have e : restOf n (k + 1) = restOf n k := if_neg hc
      rw [e]
      exact hc

/-- Below 3^14 no fourteenth division divides. -/
theorem done_thirteen {n : ℤ} (h : n < 4782969) : ¬ (0 < restOf n 13 ∧ (3 : ℤ) ∣ restOf n 13) := by
  rcases rest_or_done n 13 with e | e
  · rintro ⟨h0, d, hd⟩
    rw [hd] at e h0
    norm_num at e
    omega
  · exact e

/-- Once a division leaves the rest as it is, all later ones do. -/
theorem stay {n : ℤ} {k : ℕ} (h : ¬ (0 < restOf n k ∧ (3 : ℤ) ∣ restOf n k)) (j : ℕ) :
    restOf n (k + j) = restOf n k ∧ timesCut n (k + j) = timesCut n k := by
  induction j with
  | zero => exact ⟨rfl, rfl⟩
  | succ j ih =>
    have h' : ¬ (0 < restOf n (k + j) ∧ (3 : ℤ) ∣ restOf n (k + j)) := by rw [ih.1]; exact h
    refine ⟨Eq.trans (if_neg h') ih.1, ?_⟩
    show timesCut n (k + j) + (if 0 < restOf n (k + j) ∧ (3 : ℤ) ∣ restOf n (k + j) then 1 else 0) = _
    rw [if_neg h', ih.2, Nat.add_zero]

/-- Below 3^14 thirteen divisions count as many as sixteen. -/
theorem thirteen_enough {n : ℤ} (h : n < 4782969) : timesCut n 16 = timesCut n 13 :=
  (stay (done_thirteen h) 3).2

end Cert.Valuation
-- ==== Proof.Ker.Divide.lean ====
/- The kernel's thirteen float divisions count the divisions by three of the index, for indices below 3^14. -/
module

public import proofs.«01_k».proof.Proof.Ker.Loads
public import proofs.«01_k».proof.Proof.Math.Valuation
public import Idealize.ShloMosaic.Lib.Pointwise
public import Mathlib.Tactic.Linarith

@[expose] public section

set_option maxRecDepth 16384

noncomputable section

namespace Cert.KerValue

open Idealize.ShloMosaic Cert.Valuation
open Cert.KernelIdeal Cert.KernelIdeal.Gen

section chain
variable {F : FTy → Type} [FloatOps F]

/-! ## One division, and the chain of them -/

/-- The rounded product with the float next to one third. -/
def third (m : FVec F S1x2048 .f32) : FVec F S1x2048 .f32 :=
  roundeven (mulf m (broadcast S1x2048 (Scalar.ofBits .f32 0x3EAAAAAB#32)))

/-- Whether a number is positive. -/
def positive (m : FVec F S1x2048 .f32) : IVec S1x2048 1 := cmpf .ogt m (broadcast S1x2048 (Scalar.ofBits .f32 0x00000000#32))

/-- Three times the rounded third. -/
def thrice (m : FVec F S1x2048 .f32) : FVec F S1x2048 .f32 :=
  mulf (third m) (broadcast S1x2048 (Scalar.ofBits .f32 0x40400000#32))

/-- Whether the division comes out even on a positive number. -/
def even3 (m : FVec F S1x2048 .f32) : IVec S1x2048 1 := andi (positive m) (cmpf .oeq (thrice m) m)

/-- The number after one division. -/
def next (m : FVec F S1x2048 .f32) : FVec F S1x2048 .f32 := select (even3 m) (third m) m

/-- A flag as a float. -/
def flag (b : IVec S1x2048 1) : FVec F S1x2048 .f32 := sitofp .f32 (extui 32 b natLt_1_32)

/-- The numbers and the counts after `k` divisions. -/
def restV (m : FVec F S1x2048 .f32) : ℕ → FVec F S1x2048 .f32
  | 0 => m
  | k + 1 => next (restV m k)

/-- The counts after `k` divisions, from the counts `c`. -/
def countV (m c : FVec F S1x2048 .f32) : ℕ → FVec F S1x2048 .f32
  | 0 => c
  | k + 1 => addf (countV m c k) (flag (even3 (restV m k)))

section four
variable (m : FVec F S1x2048 .f32)

/-- The rest one division after the start. -/
theorem a7 : k0_pay7 m (third m) (even3 m) = restV m 1 := rfl

/-- The rounded third of the rest one division after the start. -/
theorem a8 : k0_pay8 m (third m) (even3 m) = third (restV m 1) := by
  show third (k0_pay7 _ _ _) = _; rw [a7]

/-- The test of the rest one division after the start. -/
theorem a9 : k0_pay9 m (third m) (even3 m) = even3 (restV m 1) := by
  show andi (positive (k0_pay7 _ _ _)) (cmpf .oeq (mulf (k0_pay8 _ _ _) _) (k0_pay7 _ _ _)) = _; rw [a7, a8]; rfl

/-- The rest two divisions after the start. -/
theorem a10 : k0_pay10 m (third m) (even3 m) = restV m 2 := by
  show select (k0_pay9 _ _ _) (k0_pay8 _ _ _) (k0_pay7 _ _ _) = _; rw [a7, a8, a9]; rfl

/-- The rounded third of the rest two divisions after the start. -/
theorem a11 : k0_pay11 m (third m) (even3 m) = third (restV m 2) := by
  show third (k0_pay10 _ _ _) = _; rw [a10]

/-- The test of the rest two divisions after the start. -/
theorem a12 : k0_pay12 m (third m) (even3 m) = even3 (restV m 2) := by
  show andi (positive (k0_pay10 _ _ _)) (cmpf .oeq (mulf (k0_pay11 _ _ _) _) (k0_pay10 _ _ _)) = _; rw [a10, a11]; rfl

/-- The rest three divisions after the start. -/
theorem a13 : k0_pay13 m (third m) (even3 m) = restV m 3 := by
  show select (k0_pay12 _ _ _) (k0_pay11 _ _ _) (k0_pay10 _ _ _) = _; rw [a10, a11, a12]; rfl

/-- The rounded third of the rest three divisions after the start. -/
theorem a14 : k0_pay14 m (third m) (even3 m) = third (restV m 3) := by
  show third (k0_pay13 _ _ _) = _; rw [a13]

/-- The test of the rest three divisions after the start. -/
theorem a15 : k0_pay15 m (third m) (even3 m) = even3 (restV m 3) := by
  show andi (positive (k0_pay13 _ _ _)) (cmpf .oeq (mulf (k0_pay14 _ _ _) _) (k0_pay13 _ _ _)) = _; rw [a13, a14]; rfl

/-- The rest four divisions after the start. -/
theorem a17 : k0_pay17 m (third m) (even3 m) = restV m 4 := by
  show select (k0_pay15 _ _ _) (k0_pay14 _ _ _) (k0_pay13 _ _ _) = _; rw [a13, a14, a15]; rfl

/-- The rounded third of the rest four divisions after the start. -/
theorem a18 : k0_pay18 m (third m) (even3 m) = third (restV m 4) := by
  show third (k0_pay17 _ _ _) = _; rw [a17]

/-- The test for a positive rest four divisions after the start. -/
theorem a19 : k0_pay19 m (third m) (even3 m) = positive (restV m 4) := by
  show positive (k0_pay17 _ _ _) = _; rw [a17]

/-- Three times the rounded third of the rest four divisions after the start. -/
theorem a20 : k0_pay20 m (third m) (even3 m) = thrice (restV m 4) := by
  show mulf (k0_pay18 _ _ _) _ = _; rw [a18]; rfl

/-- The count four divisions after the start. -/
theorem a16 (c : FVec F S1x2048 .f32) : k0_pay16 m c (third m) (even3 m) (flag (even3 m)) = countV m c 4 := by
  show addf (addf (addf (addf c (flag (even3 m))) (flag (k0_pay9 _ _ _))) (flag (k0_pay12 _ _ _))) (flag (k0_pay15 _ _ _)) = _
  rw [a9, a12, a15]; rfl

/-- The test of the rest at the fourth division. -/
theorem b21 : k0_pay21 m (positive m) (thrice m) = even3 m := rfl

/-- The rest one division after the fourth division. -/
theorem b22 : k0_pay22 m (third m) (positive m) (thrice m) = restV m 1 := rfl

/-- The rounded third of the rest one division after the fourth division. -/
theorem b23 : k0_pay23 m (third m) (positive m) (thrice m) = third (restV m 1) := by
  show third (k0_pay22 _ _ _ _) = _; rw [b22]

/-- The test of the rest one division after the fourth division. -/
theorem b24 : k0_pay24 m (third m) (positive m) (thrice m) = even3 (restV m 1) := by
  show andi (positive (k0_pay22 _ _ _ _)) (cmpf .oeq (mulf (k0_pay23 _ _ _ _) _) (k0_pay22 _ _ _ _)) = _; rw [b22, b23]; rfl

/-- The rest two divisions after the fourth division. -/
theorem b25 : k0_pay25 m (third m) (positive m) (thrice m) = restV m 2 := by
  show select (k0_pay24 _ _ _ _) (k0_pay23 _ _ _ _) (k0_pay22 _ _ _ _) = _; rw [b22, b23, b24]; rfl

/-- The rounded third of the rest two divisions after the fourth division. -/
theorem b26 : k0_pay26 m (third m) (positive m) (thrice m) = third (restV m 2) := by
  show third (k0_pay25 _ _ _ _) = _; rw [b25]

/-- The test of the rest two divisions after the fourth division. -/
theorem b27 : k0_pay27 m (third m) (positive m) (thrice m) = even3 (restV m 2) := by
  show andi (positive (k0_pay25 _ _ _ _)) (cmpf .oeq (mulf (k0_pay26 _ _ _ _) _) (k0_pay25 _ _ _ _)) = _; rw [b25, b26]; rfl

/-- The rest three divisions after the fourth division. -/
theorem b28 : k0_pay28 m (third m) (positive m) (thrice m) = restV m 3 := by
  show select (k0_pay27 _ _ _ _) (k0_pay26 _ _ _ _) (k0_pay25 _ _ _ _) = _; rw [b25, b26, b27]; rfl

/-- The rounded third of the rest three divisions after the fourth division. -/
theorem b29 : k0_pay29 m (third m) (positive m) (thrice m) = third (restV m 3) := by
  show third (k0_pay28 _ _ _ _) = _; rw [b28]

/-- The test of the rest three divisions after the fourth division. -/
theorem b30 : k0_pay30 m (third m) (positive m) (thrice m) = even3 (restV m 3) := by
  show andi (positive (k0_pay28 _ _ _ _)) (cmpf .oeq (mulf (k0_pay29 _ _ _ _) _) (k0_pay28 _ _ _ _)) = _; rw [b28, b29]; rfl

/-- The rest four divisions after the fourth division. -/
theorem b32 : k0_pay32 m (third m) (positive m) (thrice m) = restV m 4 := by
  show select (k0_pay30 _ _ _ _) (k0_pay29 _ _ _ _) (k0_pay28 _ _ _ _) = _; rw [b28, b29, b30]; rfl

/-- The rounded third of the rest four divisions after the fourth division. -/
theorem b33 : k0_pay33 m (third m) (positive m) (thrice m) = third (restV m 4) := by
  show third (k0_pay32 _ _ _ _) = _; rw [b32]

/-- The count four divisions after the fourth division. -/
theorem b31 (c : FVec F S1x2048 .f32) : k0_pay31 c m (third m) (positive m) (thrice m) = countV m c 4 := by
  show addf (addf (addf (addf c (flag (k0_pay21 _ _ _))) (flag (k0_pay24 _ _ _ _))) (flag (k0_pay27 _ _ _ _))) (flag (k0_pay30 _ _ _ _)) = _
  rw [b21, b24, b27, b30]; rfl

/-- The test of the rest at the eighth division. -/
theorem c35 : k0_pay35 m (third m) k0_pay34 = even3 m := rfl

/-- The rest one division after the eighth division. -/
theorem c36 : k0_pay36 m (third m) k0_pay34 = restV m 1 := rfl

/-- The rounded third of the rest one division after the eighth division. -/
theorem c37 : k0_pay37 m (third m) k0_pay34 = third (restV m 1) := by
  show third (k0_pay36 _ _ _) = _; rw [c36]

/-- The test of the rest one division after the eighth division. -/
theorem c38 : k0_pay38 m (third m) k0_pay34 = even3 (restV m 1) := by
  show andi (positive (k0_pay36 _ _ _)) (cmpf .oeq (mulf (k0_pay37 _ _ _) _) (k0_pay36 _ _ _)) = _; rw [c36, c37]; rfl

/-- The rest two divisions after the eighth division. -/
theorem c39 : k0_pay39 m (third m) k0_pay34 = restV m 2 := by
  show select (k0_pay38 _ _ _) (k0_pay37 _ _ _) (k0_pay36 _ _ _) = _; rw [c36, c37, c38]; rfl

/-- The rounded third of the rest two divisions after the eighth division. -/
theorem c40 : k0_pay40 m (third m) k0_pay34 = third (restV m 2) := by
  show third (k0_pay39 _ _ _) = _; rw [c39]

/-- The test of the rest two divisions after the eighth division. -/
theorem c41 : k0_pay41 m (third m) k0_pay34 = even3 (restV m 2) := by
  show andi (positive (k0_pay39 _ _ _)) (cmpf .oeq (mulf (k0_pay40 _ _ _) _) (k0_pay39 _ _ _)) = _; rw [c39, c40]; rfl

/-- The rest three divisions after the eighth division. -/
theorem c42 : k0_pay42 m (third m) k0_pay34 = restV m 3 := by
  show select (k0_pay41 _ _ _) (k0_pay40 _ _ _) (k0_pay39 _ _ _) = _; rw [c39, c40, c41]; rfl

/-- The rounded third of the rest three divisions after the eighth division. -/
theorem c43 : k0_pay43 m (third m) k0_pay34 = third (restV m 3) := by
  show third (k0_pay42 _ _ _) = _; rw [c42]

/-- The test of the rest three divisions after the eighth division. -/
theorem c44 : k0_pay44 m (third m) k0_pay34 = even3 (restV m 3) := by
  show andi (positive (k0_pay42 _ _ _)) (cmpf .oeq (mulf (k0_pay43 _ _ _) _) (k0_pay42 _ _ _)) = _; rw [c42, c43]; rfl

/-- The rest four divisions after the eighth division. -/
theorem c46 : k0_pay46 m (third m) k0_pay34 = restV m 4 := by
  show select (k0_pay44 _ _ _) (k0_pay43 _ _ _) (k0_pay42 _ _ _) = _; rw [c42, c43, c44]; rfl

/-- The count four divisions after the eighth division. -/
theorem c45 (c : FVec F S1x2048 .f32) : k0_pay45 c m (third m) k0_pay34 = countV m c 4 := by
  show addf (addf (addf (addf c (flag (k0_pay35 _ _ _))) (flag (k0_pay38 _ _ _))) (flag (k0_pay41 _ _ _))) (flag (k0_pay44 _ _ _)) = _
  rw [c35, c38, c41, c44]; rfl

/-- The count one division after the twelfth division. -/
theorem d48 (c : FVec F S1x2048 .f32) : k0_pay48 c m k0_pay47 = countV m c 1 := rfl

end four

/-- Divisions in two stretches. -/
theorem restV_add (m : FVec F S1x2048 .f32) (a b : ℕ) : restV (restV m a) b = restV m (a + b) := by
  induction b with
  | zero => rfl
  | succ b ih => exact congrArg next ih

/-- Counts in two stretches. -/
theorem countV_add (m c : FVec F S1x2048 .f32) (a b : ℕ) : countV (restV m a) (countV m c a) b = countV m c (a + b) := by
  induction b with
  | zero => rfl
  | succ b ih =>
    show addf _ (flag (even3 (restV (restV m a) b))) = addf _ (flag (even3 (restV m (a + b))))
    rw [ih, restV_add]
    rfl

variable (x : Vec F S2048 .i32)

/-- The rest after 4 divisions, as the chain has it. -/
theorem rest4_eq : rest4 x = restV (k0_pay2 x) 4 := a17 _

/-- The rounded third of the rest after 4 divisions, as the chain has it. -/
theorem third4_eq : third4 x = third (restV (k0_pay2 x) 4) := a18 _

/-- The test for a positive rest after 4 divisions, as the chain has it. -/
theorem positive4_eq : positive4 x = positive (restV (k0_pay2 x) 4) := a19 _

/-- Three times the rounded third after 4 divisions, as the chain has it. -/
theorem thrice4_eq : thrice4 x = thrice (restV (k0_pay2 x) 4) := a20 _

/-- The count after 4 divisions, as the chain has it. -/
theorem count4_eq : count4 x = countV (k0_pay2 x) k0_pay3 4 := a16 _ _

/-- The rest after 8 divisions, as the chain has it. -/
theorem rest8_eq : rest8 x = restV (k0_pay2 x) 8 := by
  unfold rest8; rw [rest4_eq, third4_eq, positive4_eq, thrice4_eq, b32, restV_add]

/-- The rounded third of the rest after 8 divisions, as the chain has it. -/
theorem third8_eq : third8 x = third (restV (k0_pay2 x) 8) := by
  unfold third8; rw [rest4_eq, third4_eq, positive4_eq, thrice4_eq, b33, restV_add]

/-- The count after 8 divisions, as the chain has it. -/
theorem count8_eq : count8 x = countV (k0_pay2 x) k0_pay3 8 := by
  unfold count8; rw [count4_eq, rest4_eq, third4_eq, positive4_eq, thrice4_eq, b31, countV_add]

/-- The rest after 12 divisions, as the chain has it. -/
theorem rest12_eq : rest12 x = restV (k0_pay2 x) 12 := by
  unfold rest12; rw [rest8_eq, third8_eq, c46, restV_add]

/-- The count after 12 divisions, as the chain has it. -/
theorem count12_eq : count12 x = countV (k0_pay2 x) k0_pay3 12 := by
  unfold count12; rw [count8_eq, rest8_eq, third8_eq, c45, countV_add]
/-- The kernel's valuations are the counts after thirteen divisions. -/
theorem valuations_eq : valuations x = countV (k0_pay2 x) k0_pay3 13 := by
  unfold valuations; rw [count12_eq, rest12_eq, d48, countV_add]

end chain

end Cert.KerValue

end
-- ==== Proof.Ker.Count.lean ====
/- On integers below 3^14 one float division is one exact division by three, so the kernel's counts are the numbers of
   exact divisions. -/
module

public import proofs.«01_k».proof.Proof.Ker.Divide
public import Mathlib.Tactic.FieldSimp

@[expose] public section

set_option maxRecDepth 16384

noncomputable section

namespace Cert.KerValue

open Idealize.ShloMosaic Cert.Valuation
open Cert.KernelIdeal Cert.KernelIdeal.Gen

/-- The float next to one third: (2^25 + 1) / (3 · 2^25). -/
theorem third_word : Ideal.ofBits .f32 0x3EAAAAAB#32 = ((11184811 / 33554432 : ℝ) : EReal) := by
  simp [Ideal.ofBits, Ideal.ieee, -EReal.coe_mul]; norm_num

/-- The factor of the test is three. -/
theorem three_word : Ideal.ofBits .f32 0x40400000#32 = ((3 : ℝ) : EReal) := by
  simp [Ideal.ofBits, Ideal.ieee, -EReal.coe_mul]; norm_num

/-- A real less than a half away from an integer rounds to it. -/
theorem round_near {r : ℝ} {k : ℤ} (h : (k : ℝ) ≤ r) (h' : r < k + 1 / 2) : Ideal.roundHalfEven r = k := by
  have hf : ⌊r⌋ = k := Int.floor_eq_iff.mpr ⟨h, by linarith⟩
  unfold Ideal.roundHalfEven
  rw [hf, if_pos (by linarith)]

/-- One float division's rounded third, on an integer. -/
def thirdOf (n : ℤ) : ℤ := Ideal.roundHalfEven ((n : ℝ) * (11184811 / 33554432))

/-- The rounded third of a positive multiple of three is exact. -/
theorem thirdOf_multiple {n : ℤ} (h0 : 0 < n) (h : n < 4782969) (hd : (3 : ℤ) ∣ n) : thirdOf n = n / 3 := by
  obtain ⟨d, rfl⟩ := hd
  rw [Int.mul_ediv_cancel_left _ (by norm_num)]
  have hd0 : (0 : ℝ) < d := by exact_mod_cast (by omega : 0 < d)
  have hd1 : (d : ℝ) < 1594323 := by exact_mod_cast (by omega : d < 1594323)
  refine round_near ?_ ?_ <;> push_cast <;> linarith

/-- The float test for a positive multiple of three is the exact one. -/
theorem test_iff {n : ℤ} (h : n < 4782969) : (0 < n ∧ thirdOf n * 3 = n) ↔ (0 < n ∧ (3 : ℤ) ∣ n) := by
  refine and_congr_right fun h0 => ⟨fun e => ⟨thirdOf n, by omega⟩, fun hd => ?_⟩
  rw [thirdOf_multiple h0 h hd]
  omega

section step
variable (m : FVec Ideal S1x2048 .f32) (j : S1x2048.Idx) (n : ℤ)

/-- The rounded third at an index. -/
theorem third_at (hm : m j = ((n : ℝ) : EReal)) : third m j = ((thirdOf n : ℝ) : EReal) := by
  show Ideal.liftRound Ideal.roundHalfEven (m j * Ideal.ofBits .f32 0x3EAAAAAB#32) = _
  rw [hm, third_word, ← EReal.coe_mul]
  rfl

/-- The test at an index is divisibility by three. -/
theorem even3_at (hm : m j = ((n : ℝ) : EReal)) (h : n < 4782969) :
    even3 m j = if 0 < n ∧ (3 : ℤ) ∣ n then 1#1 else 0#1 := by
  show (BitVec.ofBool (decide (Ideal.ofBits .f32 0x00000000#32 < m j)))
    &&& BitVec.ofBool (decide (third m j * Ideal.ofBits .f32 0x40400000#32 = m j)) = _
  rw [third_at m j n hm, hm, Ideal.ofBits_zero_f32, three_word, ← EReal.coe_mul]
  have e0 : ((0 : EReal) < ((n : ℝ) : EReal)) ↔ 0 < n := by
    rw [← EReal.coe_zero, EReal.coe_lt_coe_iff]; exact_mod_cast Iff.rfl
  have e1 : ((((thirdOf n : ℝ) * 3 : ℝ) : EReal) = ((n : ℝ) : EReal)) ↔ thirdOf n * 3 = n := by
    rw [EReal.coe_eq_coe_iff]; exact_mod_cast Iff.rfl
  have key := test_iff h
  by_cases p0 : 0 < n <;> by_cases p1 : thirdOf n * 3 = n <;> by_cases p2 : (3 : ℤ) ∣ n <;>
    simp only [e0, e1, p0, p1, p2, and_true, and_false, true_and, false_and, iff_true, iff_false, not_true, not_false_iff,
      decide_true, decide_false, if_true, if_false] at key ⊢ <;> rfl

/-- The next rest at an index is one exact division. -/
theorem next_at (hm : m j = ((n : ℝ) : EReal)) (h : n < 4782969) : next m j = ((cut n : ℝ) : EReal) := by
  show (if even3 m j = 1#1 then third m j else m j) = _
  rw [even3_at m j n hm h, third_at m j n hm, hm]
  unfold cut
  by_cases hc : 0 < n ∧ (3 : ℤ) ∣ n
  · rw [if_pos hc, if_pos rfl, if_pos hc, thirdOf_multiple hc.1 h hc.2]
  · rw [if_neg hc, if_neg (by decide), if_neg hc]

/-- A test as a float is one or zero. -/
theorem flag_at (b : IVec S1x2048 1) : flag (F := Ideal) b j = if b j = 1#1 then (1 : EReal) else 0 := by
  show (((((b j).setWidth 32 : BitVec 32).toInt : ℝ)) : EReal) = _
  rcases BitVec.eq_zero_or_eq_one (b j) with e | e <;> rw [e] <;> simp

end step

/-- The divisions start from the indices as floats. -/
theorem start_at (x : Vec Ideal S2048 .i32) (i : Fin 2048) :
    (k0_pay2 (F := Ideal) x) (ix2 0 i) = (((x (ix1 i)).toInt : ℝ) : EReal) := by
  pointwise [k0_pay2]
  rfl

/-- The rest after `k` divisions at an index. -/
theorem restV_at (x : Vec Ideal S2048 .i32) (i : Fin 2048) (h : (x (ix1 i)).toInt < 4782969) (k : ℕ) :
    restV (k0_pay2 (F := Ideal) x) k (ix2 0 i) = ((restOf (x (ix1 i)).toInt k : ℝ) : EReal) := by
  induction k with
  | zero => exact start_at x i
  | succ k ih => exact next_at _ _ _ ih (restOf_lt h k)

/-- The count after `k` divisions at an index. -/
theorem countV_at (x : Vec Ideal S2048 .i32) (i : Fin 2048) (h : (x (ix1 i)).toInt < 4782969) (k : ℕ) :
    countV (k0_pay2 (F := Ideal) x) k0_pay3 k (ix2 0 i) = ((timesCut (x (ix1 i)).toInt k : ℝ) : EReal) := by
  induction k with
  | zero =>
    show Ideal.ofBits .f32 0x00000000#32 = _
    rw [Ideal.ofBits_zero_f32]; simp [timesCut]
  | succ k ih =>
    show countV _ _ k (ix2 0 i) + flag (even3 (restV _ k)) (ix2 0 i) = _
    rw [ih, flag_at, even3_at _ _ _ (restV_at x i h k) (restOf_lt h k), timesCut]
    by_cases hc : 0 < restOf (x (ix1 i)).toInt k ∧ (3 : ℤ) ∣ restOf (x (ix1 i)).toInt k
    · rw [if_pos hc, if_pos rfl, if_pos hc]; push_cast; rfl
    · rw [if_neg hc, if_neg (by decide), if_neg hc]; push_cast; rfl

/-- The kernel's valuations, for indices below 3^14. -/
theorem valuations_at (x : Vec Ideal S2048 .i32) (i : Fin 2048) (h : (x (ix1 i)).toInt < 4782969) :
    valuations x (ix2 0 i) = ((timesCut (x (ix1 i)).toInt 13 : ℝ) : EReal) := by
  rw [valuations_eq]
  exact countV_at x i h 13

end Cert.KerValue

end
-- ==== Proof.Ref.Words.lean ====
/- The reference's loop of word operations counts the divisions by three of the word's signed value. -/
module

public import proofs.«01_k».proof.Proof.Ref.Trips
public import proofs.«01_k».proof.Proof.Math.Valuation
public import Idealize.ShloMosaic.Lib.Routing.Words
public import Idealize.ShloMosaic.Lib.Pointwise

@[expose] public section

noncomputable section

namespace Cert.RefSteps

open Cert.Valuation
open Idealize.ShloMosaic

/-- A natural below 2^31 is the signed value of its word. -/
theorem toInt_small {a : ℕ} (h : a < 2 ^ 31) : (BitVec.ofNat 32 a).toInt = (a : ℤ) := by
  rw [BitVec.toInt_eq_toNat_cond, BitVec.toNat_ofNat]
  split_ifs <;> omega

/-- A positive word is the word of a natural below 2^31. -/
theorem positive_word {x : BitVec 32} (h : 0 < x.toInt) : ∃ a : ℕ, 0 < a ∧ a < 2 ^ 31 ∧ x = BitVec.ofNat 32 a := by
  refine ⟨x.toNat, ?_, ?_, by simp⟩
  · rw [BitVec.toInt_eq_toNat_cond] at h; have := x.isLt; split_ifs at h <;> omega
  · rw [BitVec.toInt_eq_toNat_cond] at h; have := x.isLt; split_ifs at h <;> omega

/-- The signed comparison with zero. -/
theorem sgt_zero (x : BitVec 32) : IntOp.cmpi .sgt x 0#32 = if 0 < x.toInt then 1#1 else 0#1 := by
  have e : IntOp.cmpi .sgt x 0#32 = BitVec.ofBool ((0#32).slt x) := rfl
  rw [e, BitVec.slt_eq_decide]
  by_cases h : 0 < x.toInt <;> simp [h]

/-- The remainder of a natural below 2^31. -/
theorem mod_word {a : ℕ} (ha : a < 2 ^ 31) : modThree (BitVec.ofNat 32 a) = BitVec.ofNat 32 (a % 3) := by
  unfold modThree
  rw [show (3#32 : BitVec 32) = BitVec.ofNat 32 3 from rfl, Routing.remsi_word .host ha (by norm_num) (by norm_num)]
  have h : a % 3 = 0 ∨ a % 3 = 1 ∨ a % 3 = 2 := by omega
  rcases h with h | h | h <;> rw [h] <;> decide

/-- The floored quotient of a natural below 2^31. -/
theorem floor_word {a : ℕ} (h0 : 0 < a) (ha : a < 2 ^ 31) : floorThree (BitVec.ofNat 32 a) = BitVec.ofNat 32 (a / 3) := by
  have hne : BitVec.ofNat 32 a ≠ 0 := by
    intro h
    have := congrArg BitVec.toInt h
    rw [toInt_small ha] at this
    simp at this
    omega
  have hm : (BitVec.ofNat 32 a).msb = false := by
    rw [BitVec.msb_eq_false_iff_two_mul_lt, BitVec.toNat_ofNat]
    omega
  have hs : signWord (BitVec.ofNat 32 a) = signWord 3#32 := by
    unfold signWord
    rw [if_neg hne, hm]
    rfl
  unfold floorThree
  rw [hs, show (3#32 : BitVec 32) = BitVec.ofNat 32 3 from rfl, Routing.remsi_word .host ha (by norm_num) (by norm_num),
    Routing.divsi_word .host ha (by norm_num) (by norm_num)]
  have e : IntOp.cmpi .ne (signWord (BitVec.ofNat 32 3)) (signWord (BitVec.ofNat 32 3)) = 0#1 := by decide
  rw [e]
  have h : a % 3 = 0 ∨ a % 3 = 1 ∨ a % 3 = 2 := by omega
  rcases h with h | h | h <;> rw [h] <;> rfl

/-- Whether a trip divides, of the word's signed value. -/
theorem divides_eq (x : BitVec 32) : divides x = if 0 < x.toInt ∧ (3 : ℤ) ∣ x.toInt then 1#1 else 0#1 := by
  unfold divides
  rw [sgt_zero]
  by_cases h : 0 < x.toInt
  · obtain ⟨a, h0, ha, rfl⟩ := positive_word h
    rw [if_pos h, mod_word ha, toInt_small ha]
    have hc : a % 3 = 0 ∨ a % 3 = 1 ∨ a % 3 = 2 := by omega
    rcases hc with hc | hc | hc <;> rw [hc]
    · rw [if_pos ⟨by omega, by omega⟩]; decide
    · rw [if_neg (by omega)]; decide
    · rw [if_neg (by omega)]; decide
  · rw [if_neg h, if_neg (fun hh => h hh.1)]
    show 0#1 &&& _ = _
    simp

/-- A trip is one exact division. -/
theorem step_toInt (x : BitVec 32) : (stepWord x).toInt = cut x.toInt := by
  unfold stepWord cut
  rw [divides_eq]
  by_cases h : 0 < x.toInt ∧ (3 : ℤ) ∣ x.toInt
  · rw [if_pos h, if_pos h]
    show (floorThree x).toInt = _
    obtain ⟨a, h0, ha, rfl⟩ := positive_word h.1
    rw [floor_word h0 ha, toInt_small (by omega), toInt_small ha]
    omega
  · rw [if_neg h, if_neg h]
    rfl

/-- The word after `k` trips is what `k` divisions leave. -/
theorem wordAt_toInt (x : BitVec 32) (k : ℕ) : (wordAt x k).toInt = restOf x.toInt k := by
  induction k with
  | zero => rfl
  | succ k ih => rw [wordAt, step_toInt, ih]; rfl

/-- The reference's count is the number of divisions, as a real. -/
theorem countAt_eq (x : BitVec 32) (k : ℕ) :
    countAt (F := Ideal) x k = ((timesCut x.toInt k : ℝ) : EReal) := by
  induction k with
  | zero =>
    show Ideal.ofBits .f32 0x00000000#32 = _
    rw [Ideal.ofBits_zero_f32]; simp [timesCut]
  | succ k ih =>
    rw [countAt, ih, divides_eq, wordAt_toInt, timesCut]
    show _ + (((_ : BitVec 1).toNat : ℝ) : EReal) = _
    split_ifs <;> simp

end Cert.RefSteps

end
-- ==== Proof.Math.Loss.lean ====
/- The loss over the reals: the sum over ordered pairs of one half minus a hyperbolic tangent, rearranged into the
   histogram of the valuations and one sum of tangents for each index. -/
module

public import Mathlib.Tactic.Ring
public import Mathlib.Tactic.NormNum
public import Mathlib.Tactic.Linarith
public import Mathlib.Tactic.FieldSimp
public import Mathlib.Analysis.SpecialFunctions.Trigonometric.Basic

@[expose] public section

noncomputable section

namespace Cert.Loss

/-- The logistic function at `-2y` is half of one minus the hyperbolic tangent. -/
theorem logistic (y : ℝ) : 1 / (1 + Real.exp (2 * y)) = 1 / 2 - Real.tanh y / 2 := by
  have h : Real.exp (2 * y) = Real.exp y * Real.exp y := by rw [← Real.exp_add]; ring_nf
  have hi : Real.exp (-y) = (Real.exp y)⁻¹ := Real.exp_neg y
  rw [Real.tanh_eq_sinh_div_cosh, Real.sinh_eq, Real.cosh_eq, h, hi]
  have hp := Real.exp_pos y
  have : 1 + Real.exp y * Real.exp y ≠ 0 := by nlinarith
  have : Real.exp y + (Real.exp y)⁻¹ ≠ 0 := by have := inv_pos.mpr hp; linarith
  field_simp
  ring

/-- The sign as a real number. -/
def sgn (d : ℝ) : ℝ := (SignType.sign d : ℝ)

/-- The sign of a positive number. -/
theorem sgn_pos {d : ℝ} (h : 0 < d) : sgn d = 1 := by simp [sgn, sign_pos h]

/-- The sign of a negative number. -/
theorem sgn_neg {d : ℝ} (h : d < 0) : sgn d = -1 := by simp [sgn, sign_neg h]

/-- A pair's violation weighted by the distance of its valuations: the larger part of the difference, less half the
    difference times one more than the tangent. -/
theorem pair_value (d x : ℝ) :
    1 / (1 + Real.exp (10 * (sgn d * x))) * max d (-d) * (if d ≠ 0 then 1 else 0)
      = max d 0 - d / 2 - d / 2 * Real.tanh (5 * x) := by
  rcases lt_trichotomy d 0 with h | h | h
  · rw [sgn_neg h, max_eq_right (by linarith), max_eq_right h.le, if_pos h.ne,
      show 10 * (-1 * x) = 2 * (-(5 * x)) by ring, logistic, Real.tanh_neg]
    ring
  · subst h; simp
  · rw [sgn_pos h, max_eq_left (by linarith), max_eq_left h.le, if_pos h.ne',
      show 10 * (1 * x) = 2 * (5 * x) by ring, logistic]
    ring

section sums
variable {ι : Type} [Fintype ι] (v : ι → Fin 16)

/-- How many indices have the valuation `b`. -/
def count (b : Fin 16) : ℝ := ∑ j, if b = v j then 1 else 0

/-- How far the bin `b` lies above the valuations, summed over those below it. -/
def above (b : Fin 16) : ℝ := ∑ j, max ((b.val : ℝ) - (v j).val) 0

/-- A sum over bins weighted by the counts is a sum over indices. -/
theorem sum_bins (g : Fin 16 → ℝ) : ∑ b, count v b * g b = ∑ i, g (v i) := by
  unfold count
  simp_rw [Finset.sum_mul, ite_mul, one_mul, zero_mul]
  rw [Finset.sum_comm]
  simp

/-- The positive parts of all differences, from the histogram. -/
theorem positive_parts : ∑ i, ∑ j, max (((v i).val : ℝ) - (v j).val) 0 = ∑ b, count v b * above v b :=
  (sum_bins v (above v)).symm

/-- The number of pairs of unequal valuations, from the histogram. -/
theorem unequal_pairs : (∑ i, ∑ j, if ((v i).val : ℝ) - (v j).val ≠ 0 then (1 : ℝ) else 0)
    = (Fintype.card ι : ℝ) * Fintype.card ι - ∑ b, count v b * count v b := by
  rw [sum_bins v (count v)]
  have e : ∀ i j, (if ((v i).val : ℝ) - (v j).val ≠ 0 then (1 : ℝ) else 0) = 1 - if v i = v j then 1 else 0 := by
    intro i j
    have : (((v i).val : ℝ) - (v j).val ≠ 0) ↔ ¬ v i = v j := by
      rw [not_iff_not, sub_eq_zero, Nat.cast_inj, Fin.ext_iff]
    by_cases h : v i = v j
    · rw [if_neg (by rw [this]; exact not_not.mpr h), if_pos h]; ring
    · rw [if_pos (this.mpr h), if_neg h]; ring
  simp_rw [e, Finset.sum_sub_distrib]
  simp [count]

/-- The sum of all weighted violations: the positive parts of the differences and, for each index, its valuation times
    a sum of tangents. -/
theorem total (r : ι → ℝ) :
    (∑ i, ∑ j, 1 / (1 + Real.exp (10 * (sgn (((v i).val : ℝ) - (v j).val) * (r j - r i))))
        * max (((v i).val : ℝ) - (v j).val) (-(((v i).val : ℝ) - (v j).val))
        * (if ((v i).val : ℝ) - (v j).val ≠ 0 then 1 else 0))
      = (∑ b, count v b * above v b) + ∑ j, ((v j).val : ℝ) * ∑ i, Real.tanh (r j * 5 - r i * 5) := by
  simp_rw [pair_value]
  rw [← positive_parts]
  simp_rw [Finset.sum_sub_distrib]
  have h1 : (∑ i, ∑ j, (((v i).val : ℝ) - (v j).val) / 2) = 0 := by
    simp_rw [div_eq_mul_inv, ← Finset.sum_mul, Finset.sum_sub_distrib]
    rw [Finset.sum_comm (f := fun i j => ((v j).val : ℝ)), sub_self, zero_mul]
  have h2 : (∑ i, ∑ j, (((v i).val : ℝ) - (v j).val) / 2 * Real.tanh (5 * (r j - r i)))
      = - ∑ j, ((v j).val : ℝ) * ∑ i, Real.tanh (r j * 5 - r i * 5) := by
    have e : ∀ i j, (((v i).val : ℝ) - (v j).val) / 2 * Real.tanh (5 * (r j - r i))
        = -(((v i).val : ℝ) / 2 * Real.tanh (r i * 5 - r j * 5)) - ((v j).val : ℝ) / 2 * Real.tanh (r j * 5 - r i * 5) := by
      intro i j
      have : Real.tanh (r i * 5 - r j * 5) = - Real.tanh (5 * (r j - r i)) := by
        rw [← Real.tanh_neg]; ring_nf
      rw [this, show r j * 5 - r i * 5 = 5 * (r j - r i) by ring]; ring
    simp_rw [e, Finset.sum_sub_distrib, Finset.sum_neg_distrib]
    rw [Finset.sum_comm (f := fun i j => ((v j).val : ℝ) / 2 * Real.tanh (r j * 5 - r i * 5))]
    simp_rw [Finset.mul_sum]
    rw [← neg_add', ← Finset.sum_add_distrib]
    simp_rw [← Finset.sum_add_distrib]
    refine congrArg _ (Finset.sum_congr rfl fun i _ => Finset.sum_congr rfl fun j _ => by ring)
  rw [h1, h2]
  ring

end sums

section bands

/-- A sum over all indices, band by band. -/
theorem sum_bands {M : Type} [AddCommMonoid M] (f : Fin 2048 → M) :
    ∑ i, f i = (∑ j : Fin 512, f ⟨j.val, by omega⟩) + (∑ j : Fin 512, f ⟨512 + j.val, by omega⟩)
      + (∑ j : Fin 512, f ⟨1024 + j.val, by omega⟩) + ∑ j : Fin 512, f ⟨1536 + j.val, by omega⟩ := by
  have h := Fin.sum_univ_add (a := 512 + 512 + 512) (b := 512) f
  rw [Fin.sum_univ_add (a := 512 + 512) (b := 512), Fin.sum_univ_add (a := 512) (b := 512)] at h
  exact h

end bands

end Cert.Loss

end
-- ==== Proof.Equal.lean ====
/- The kernel's stored scalar is the reference's loss. -/
module

public import proofs.«01_k».proof.Proof.Ker.Blocks
public import proofs.«01_k».proof.Proof.Ker.Count
public import proofs.«01_k».proof.Proof.Ker.Run
public import proofs.«01_k».proof.Proof.Ref.Words
public import proofs.«01_k».proof.Proof.Ref.Result
public import proofs.«01_k».proof.Proof.Math.Loss

@[expose] public section

set_option maxRecDepth 16384

noncomputable section

namespace Cert.Equal

open Idealize.ShloMosaic Cert.Valuation

/-! ## Real numbers among the extended ones -/

/-- A sum of reals. -/
theorem coe_sum {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- The larger of two reals. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- One or zero. -/
theorem coe_ite (p : Prop) [Decidable p] : (if p then (1 : EReal) else 0) = ((if p then (1 : ℝ) else 0 : ℝ) : EReal) := by
  by_cases h : p <;> simp [h]

/-- A quotient of reals, the divisor not zero. -/
theorem coe_div {x y : ℝ} (h : y ≠ 0) : Ideal.div (x : EReal) (y : EReal) = ((x / y : ℝ) : EReal) := by
  rw [Ideal.div, if_neg (by exact_mod_cast h), ← EReal.coe_inv, ← EReal.coe_mul, div_eq_mul_inv]

/-! ## The reference's side -/

/-- The divisor in the temperature is ten. -/
theorem ten_word : Ideal.ofBits .f32 0x41200000#32 = ((10 : ℝ) : EReal) := by
  simp [Ideal.ofBits, Ideal.ieee, -EReal.coe_mul]; norm_num

/-- A pair's weighted violation, of real valuations and radii. -/
theorem pair_real (vi vj ri rj : ℝ) : Cert.RefSteps.pairTerm ((1 / 10 : ℝ) : EReal) vi vj ri rj
    = ((1 / (1 + Real.exp (10 * (Loss.sgn (vi - vj) * (rj - ri)))) * max (vi - vj) (-(vi - vj))
        * (if vi - vj ≠ 0 then 1 else 0) : ℝ) : EReal) := by
  have h0 : ((vi : EReal) - (vj : EReal) ≠ 0) ↔ vi - vj ≠ 0 := by
    rw [← EReal.coe_sub, ← EReal.coe_zero, Ne, EReal.coe_eq_coe_iff]
  have hp : (1 + Real.exp (10 * (Loss.sgn (vi - vj) * (rj - ri)))) ≠ 0 := by
    have := Real.exp_pos (10 * (Loss.sgn (vi - vj) * (rj - ri))); linarith
  have hs : Ideal.sign ((vi - vj : ℝ) : EReal) = ((Loss.sgn (vi - vj) : ℝ) : EReal) := by
    rw [Ideal.sign_coe]; rfl
  unfold Cert.RefSteps.pairTerm
  simp only [h0]
  rw [← EReal.coe_sub, ← EReal.coe_sub, hs, ← EReal.coe_mul, ← EReal.coe_neg, coe_div (by norm_num), ← EReal.coe_neg,
    Ideal.exp_coe, ← EReal.coe_one, ← EReal.coe_add,
    show -(-(Loss.sgn (vi - vj) * (rj - ri)) / (1 / 10)) = 10 * (Loss.sgn (vi - vj) * (rj - ri)) by ring,
    coe_div hp, ← EReal.coe_neg, coe_max, EReal.coe_one, coe_ite, ← EReal.coe_mul, ← EReal.coe_mul]

section value
variable (z : FVec Ideal Cert.ReferenceIdeal.S2048x128 .f32) (bi : IVec Cert.ReferenceIdeal.S2048 32) (a : Fin 2048 → Fin 128 → ℝ)

/-- The radius of a row of reals. -/
def radius (i : Fin 2048) : ℝ := Real.sqrt (∑ k, a i k * a i k)

/-- The valuation of an index, at most thirteen. -/
def val (i : Fin 2048) : Fin 16 :=
  ⟨timesCut (bi (ix1 i)).toInt 13, lt_of_le_of_lt (timesCut_le _ _) (by norm_num)⟩

/-- The root of a sum of squares of reals is real. -/
theorem root_real (f : Fin 128 → ℝ) :
    Ideal.sqrt (∑ k, (f k : EReal) * (f k : EReal)) = ((Real.sqrt (∑ k, f k * f k) : ℝ) : EReal) := by
  simp only [← EReal.coe_mul, coe_sum]
  rw [Ideal.sqrt_coe, if_neg (not_lt.mpr (Finset.sum_nonneg fun k _ => mul_self_nonneg (f k)))]

/-- The number of ordered pairs of unequal valuations. -/
def pairs : ℝ := ∑ i, ∑ j, if ((val bi i).val : ℝ) - (val bi j).val ≠ 0 then (1 : ℝ) else 0

/-- The sum of the weighted violations. -/
def violations : ℝ := (∑ b, Loss.count (val bi) b * Loss.above (val bi) b)
  + ∑ j, ((val bi j).val : ℝ) * ∑ i, Real.tanh (radius a j * 5 - radius a i * 5)

variable (hz : ∀ i k, z (ix2 i k) = (a i k : EReal)) (hb : ∀ i, (bi (ix1 i)).toInt < 4782969)
include hz hb

/-- The reference's loss in real numbers. -/
theorem reference_value : Cert.RefSteps.resultOf z bi ix0
    = Ideal.div ((violations bi a : ℝ) : EReal) (max ((pairs bi : ℝ) : EReal) 1) := by
  have ht : Host.divf (constant (F := Ideal) Cert.ReferenceIdeal.S_ .f32 0x3F800000#32)
      (constant (F := Ideal) Cert.ReferenceIdeal.S_ .f32 0x41200000#32) ix0 = ((1 / 10 : ℝ) : EReal) := by
    rw [ValueIdx.hostDivf_apply, ValueIdx.constant_apply, ValueIdx.constant_apply, Ideal.ofBits_one_f32, ten_word,
      ← EReal.coe_one, coe_div (by norm_num)]
  have hv : ∀ i, Cert.RefSteps.countAt (F := Ideal) (bi (ix1 i)) 16 = (((val bi i).val : ℝ) : EReal) := by
    intro i
    rw [Cert.RefSteps.countAt_eq, thirteen_enough (hb i)]; rfl
  have hr : ∀ i, Cert.RefSteps.radiiOf z (ix1 i) = ((radius a i : ℝ) : EReal) := by
    intro i
    rw [Cert.RefSteps.radii_apply]
    simp only [hz]
    exact root_real _
  have h0 : ∀ x y : ℝ, ((x : EReal) - (y : EReal) ≠ 0) ↔ x - y ≠ 0 := by
    intro x y
    rw [← EReal.coe_sub, ← EReal.coe_zero, Ne, EReal.coe_eq_coe_iff]
  unfold Cert.RefSteps.resultOf
  rw [Cert.RefSteps.loss_apply, ht]
  simp only [hv, hr, pair_real, h0, coe_ite, coe_sum]
  rw [Loss.total]
  rfl

end value

/-! ## The kernel's side -/

section kernel
open Cert.KerValue Cert.KernelIdeal Cert.KernelIdeal.Gen
variable (z : FVec Ideal S2048x128 .f32) (bi : IVec S2048 32) (a : Fin 2048 → Fin 128 → ℝ)

/-- A row of a band is the row of the array that many rows further down. -/
theorem band_at (o : ℕ) (inb) (i : Fin 512) (k : Fin 128) (h : o + i.val < 2048) :
    band (F := Ideal) z o inb (ix2 i k) = z (ix2 ⟨o + i.val, h⟩ k) := by
  unfold band
  congr 1
  funext t
  refine Fin.ext ?_
  fin_cases t
  · show o + 1 * i.val = o + i.val
    omega
  · show 0 + 1 * k.val = k.val
    omega

variable (hz : ∀ i k, z (ix2 i k) = (a i k : EReal)) (hb : ∀ i, (bi (ix1 i)).toInt < 4782969)

include hz in
/-- A band's scaled radii are five times the array's. -/
theorem rad_at (o : ℕ) (inb) (i : Fin 512) (h : o + i.val < 2048) :
    rad (band (F := Ideal) z o inb) i = ((radius a ⟨o + i.val, h⟩ * 5 : ℝ) : EReal) := by
  unfold rad
  simp only [band_at z o inb i _ h, hz]
  rw [root_real, ← EReal.coe_mul]
  rfl

include hb in
/-- The kernel's valuations. -/
theorem vals_at (i : Fin 2048) : valuations (F := Ideal) bi (ix2 0 i) = (((val bi i).val : ℝ) : EReal) :=
  valuations_at bi i (hb i)

include hb in
/-- The kernel's histogram. -/
theorem tally_at (b : Fin 16) : tally (valuations bi) b = ((Loss.count (val bi) b : ℝ) : EReal) := by
  unfold tally Loss.count
  have h : ∀ i, (((b.val : ℝ) : EReal) = (((val bi i).val : ℝ) : EReal)) ↔ b = val bi i := by
    intro i
    rw [EReal.coe_eq_coe_iff, Nat.cast_inj, Fin.ext_iff]
  simp only [vals_at bi hb, h, coe_ite, coe_sum]

include hb in
/-- The kernel's excesses. -/
theorem excess_at (b : Fin 16) : excess (valuations bi) b = ((Loss.above (val bi) b : ℝ) : EReal) := by
  unfold excess Loss.above
  simp only [vals_at bi hb, ← EReal.coe_sub, ← EReal.coe_zero, coe_max, coe_sum]

include hb in
/-- The kernel's constant. -/
theorem constant_value : binConstant (F := Ideal) bi = ((∑ b, Loss.count (val bi) b * Loss.above (val bi) b : ℝ) : EReal) := by
  have h : binConstant (F := Ideal) bi = ∑ b, tally (valuations bi) b * excess (valuations bi) b := pay51_at _ _ _
  rw [h]
  simp only [tally_at bi hb, excess_at bi hb, ← EReal.coe_mul, coe_sum]

include hb in
/-- The kernel's count of unequal pairs. -/
theorem pair_count : pairCount (F := Ideal) bi = ((pairs bi : ℝ) : EReal) := by
  have h : pairCount (F := Ideal) bi = ((4194304 : ℝ) : EReal) - ∑ b, tally (valuations bi) b * tally (valuations bi) b :=
    pay52_at _ _ _
  rw [h]
  simp only [tally_at bi hb, ← EReal.coe_mul, coe_sum, ← EReal.coe_sub]
  unfold pairs
  rw [Loss.unequal_pairs, Fintype.card_fin]
  norm_num

/-- A block of tangents seen from a fixed row is minus the block seen from its columns. -/
theorem flip (R : Fin 512 → ℝ) (x : ℝ) : ∑ j, Real.tanh (R j - x) = -∑ j, Real.tanh (x - R j) := by
  rw [← Finset.sum_neg_distrib]
  refine Finset.sum_congr rfl fun j _ => ?_
  rw [← Real.tanh_neg, neg_sub]

section blocks
variable (b0 b1 b2 b3 : FVec Ideal S512x128 .f32) (R0 R1 R2 R3 : Fin 512 → ℝ)
  (h0 : ∀ i, rad b0 i = (R0 i : EReal)) (h1 : ∀ i, rad b1 i = (R1 i : EReal))
  (h2 : ∀ i, rad b2 i = (R2 i : EReal)) (h3 : ∀ i, rad b3 i = (R3 i : EReal))

/-- All tangents of the radius `x` against the four bands. -/
def against (x : ℝ) : ℝ := (∑ i, Real.tanh (x - R0 i)) + (∑ i, Real.tanh (x - R1 i)) + (∑ i, Real.tanh (x - R2 i))
  + ∑ i, Real.tanh (x - R3 i)

include h0 h1 h2 h3

/-- The first band's two sums together are each radius against all bands. -/
theorem first_band (j : Fin 512) : down0 (F := Ideal) b0 (ix2 0 j) + across0 (F := Ideal) b0 b1 b2 b3 (ix2 j 0)
    = ((against R0 R1 R2 R3 (R0 j) : ℝ) : EReal) := by
  rw [down0_at, across0_at]
  simp only [h0, h1, h2, h3, ← EReal.coe_sub, Ideal.tanh_coe, coe_sum, ← EReal.coe_zero, ← EReal.coe_add, EReal.coe_eq_coe_iff]
  rw [flip R1, flip R2, flip R3]
  unfold against
  ring

/-- The second band's two sums together are each radius against all bands. -/
theorem second_band (j : Fin 512) : down1 (F := Ideal) b0 b1 (ix2 0 j) + across1 (F := Ideal) b1 b2 b3 (ix2 j 0)
    = ((against R0 R1 R2 R3 (R1 j) : ℝ) : EReal) := by
  rw [down1_at, across1_at]
  simp only [h0, h1, h2, h3, ← EReal.coe_sub, Ideal.tanh_coe, coe_sum, ← EReal.coe_zero, ← EReal.coe_add, EReal.coe_eq_coe_iff]
  rw [flip R2, flip R3]
  unfold against
  ring

/-- The third band's two sums together are each radius against all bands. -/
theorem third_band (j : Fin 512) : down2 (F := Ideal) b0 b1 b2 (ix2 0 j) + across2 (F := Ideal) b2 b3 (ix2 j 0)
    = ((against R0 R1 R2 R3 (R2 j) : ℝ) : EReal) := by
  rw [down2_at, across2_at]
  simp only [h0, h1, h2, h3, ← EReal.coe_sub, Ideal.tanh_coe, coe_sum, ← EReal.coe_zero, ← EReal.coe_add, EReal.coe_eq_coe_iff]
  rw [flip R3]
  unfold against
  ring

/-- The fourth band's two sums together are each radius against all bands. -/
theorem fourth_band (j : Fin 512) : (down3 (F := Ideal) b0 b1 b2 b3 (ix2 0 j) + ∑ i : Fin 512, k0_pay88 (F := Ideal) b3 (ix2 i j)) + k0_pay62 (F := Ideal) (ix2 j 0)
    = ((against R0 R1 R2 R3 (R3 j) : ℝ) : EReal) := by
  have hp : k0_pay62 (F := Ideal) (ix2 j 0) = (0 : EReal) := by
    pointwise [k0_pay62]
  rw [down3_at, hp, add_zero]
  simp only [last_at, h0, h1, h2, h3, ← EReal.coe_sub, Ideal.tanh_coe, coe_sum, ← EReal.coe_add, EReal.coe_eq_coe_iff]
  rfl

end blocks

include hz hb in
/-- The kernel's stored scalar in real numbers. -/
theorem kernel_value : storedOf (F := Ideal) z bi
    = Ideal.div ((violations bi a : ℝ) : EReal) (max ((pairs bi : ℝ) : EReal) 1) := by
  unfold storedOf stored
  rw [pay1_at, constant_value bi hb, pair_count bi hb]
  have r0 := fun i : Fin 512 => rad_at z a hz 0 inb_S2048x128_S512x128_0_0 i (by omega)
  have r1 := fun i : Fin 512 => rad_at z a hz 512 inb_S2048x128_S512x128_512_0 i (by omega)
  have r2 := fun i : Fin 512 => rad_at z a hz 1024 inb_S2048x128_S512x128_1024_0 i (by omega)
  have r3 := fun i : Fin 512 => rad_at z a hz 1536 inb_S2048x128_S512x128_1536_0 i (by omega)
  simp only [first_band _ _ _ _ _ _ _ _ r0 r1 r2 r3, second_band _ _ _ _ _ _ _ _ r0 r1 r2 r3,
    third_band _ _ _ _ _ _ _ _ r0 r1 r2 r3, fourth_band _ _ _ _ _ _ _ _ r0 r1 r2 r3, vals_at bi hb,
    ← EReal.coe_mul, coe_sum, ← EReal.coe_add]
  congr 2
  unfold violations
  have key : ∀ x : ℝ, ∑ i, Real.tanh (x - radius a i * 5) = against (fun i => radius a ⟨0 + i.val, by omega⟩ * 5)
      (fun i => radius a ⟨512 + i.val, by omega⟩ * 5) (fun i => radius a ⟨1024 + i.val, by omega⟩ * 5)
      (fun i => radius a ⟨1536 + i.val, by omega⟩ * 5) x := by
    intro x
    rw [Loss.sum_bands]
    unfold against
    simp only [Nat.zero_add]
  simp only [key]
  rw [Loss.sum_bands (fun j => ((val bi j).val : ℝ) * against _ _ _ _ (radius a j * 5))]
  simp only [Nat.zero_add, add_assoc]

end kernel

/-- THE LOSSES ARE EQUAL: on real embeddings and indices below 3^14 the reference's result is the kernel's. -/
theorem losses (z : FVec Ideal Cert.ReferenceIdeal.S2048x128 .f32) (bi : IVec Cert.ReferenceIdeal.S2048 32)
    (hz : ∀ i k, ∃ a : ℝ, z (ix2 i k) = (a : EReal)) (hb : ∀ i, (bi (ix1 i)).toInt < 4782969) :
    Cert.RefSteps.resultOf z bi = fun _ => Cert.KerValue.storedOf (F := Ideal) z bi := by
  choose a ha using hz
  funext y
  rw [show y = ix0 from funext fun t => t.elim0, reference_value z bi a ha hb, kernel_value z bi a ha hb]

end Cert.Equal

end
-- ==== Proof.lean ====
/- The kernel's five claims: it runs and leaves its arguments alone, read as printed and over the extended reals; so does
   the reference; the idealization rewrites nothing; and on real embeddings and indices below 3^14 the two results are
   equal over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Ref.Trips
public import proofs.«01_k».proof.Proof.Ref.Result
public import proofs.«01_k».proof.Proof.Ker.Run
public import proofs.«01_k».proof.Proof.Pre
public import proofs.«01_k».proof.Proof.Equal
public import Idealize.ShloMosaic.Adequacy
public import Idealize.ShloMosaic.Init

@[expose] public section

noncomputable section

namespace Cert.Proof

open Idealize.ShloMosaic Idealize.SL.Sem

/-- From memories that agree on the arguments and meet the precondition, kernel and reference run, end with equal results
    and leave their arguments alone. -/
theorem equal : Cert.algebraic_KernelIdeal_ReferenceIdeal_pre_finite_below_3_14 (hKernelIdeal := Cert.KernelIdeal.Gen.facts)
    (hReferenceIdeal := Cert.ReferenceIdeal.Gen.facts) (hPre_finite_below_3_14 := Cert.Bounds.facts) := by
  intro m g m' g' hpre hargs
  refine ⟨fun c _ => Cert.KerValue.storedOf (F := Ideal) (Cert.KerValue.embArg m c) (Cert.KerValue.idxArg m c),
    Cert.KerValue.run m g, ?_⟩
  refine (θ_run _ _ _).mono (fun _ h c => ?_) (Cert.RefSteps.run m' g')
  refine ⟨(h c).1.trans ?_, (h c).2.1, (h c).2.2⟩
  have hp := Cert.Bounds.read _ _ (hpre c)
  have e0 : Cert.RefSteps.embArg m' c = Cert.KerValue.embArg m c := (hargs c).1
  have e1 : Cert.RefSteps.idxArg m' c = Cert.KerValue.idxArg m c := (hargs c).2
  rw [e0, e1]
  exact Cert.Equal.losses _ _ hp.1 hp.2

/-- All the claims. -/
theorem claim : Cert.Claim :=
  ⟨Cert.Kernel.Gen.facts, Cert.KernelIdeal.Gen.facts, Cert.ReferenceIdeal.Gen.facts, Cert.Bounds.facts,
    fun m g _ => Cert.Kernel.Gen.frame m g, fun m g _ => Cert.KernelIdeal.Gen.frame m g,
    fun m g _ => Cert.KernelIdeal.Gen.frame m g, fun m g _ => Cert.RefSteps.frame m g,
    fun m g _ => Cert.RefSteps.frame m g, trivial, equal⟩

end Cert.Proof

end
